-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512x1024 : Shape := ⟨3, ![64, 512, 1024]⟩
abbrev S64x1024 : Shape := ⟨2, ![64, 1024]⟩
abbrev S512x512 : Shape := ⟨2, ![512, 512]⟩
abbrev S512 : Shape := ⟨1, ![512]⟩
abbrev S512x1024 : Shape := ⟨2, ![512, 1024]⟩
abbrev S1x512 : Shape := ⟨2, ![1, 512]⟩
abbrev S1 : Shape := ⟨1, ![1]⟩
abbrev S64x1x1024 : Shape := ⟨3, ![64, 1, 1024]⟩
abbrev S512x1 : Shape := ⟨2, ![512, 1]⟩
abbrev S1024x512 : Shape := ⟨2, ![1024, 512]⟩
abbrev S1x1 : Shape := ⟨2, ![1, 1]⟩
abbrev S64x1 : Shape := ⟨2, ![64, 1]⟩
abbrev S8x512x1024 : Shape := ⟨3, ![8, 512, 1024]⟩
abbrev S8x1x1024 : Shape := ⟨3, ![8, 1, 1024]⟩
abbrev S1x512x1024 : Shape := ⟨3, ![1, 512, 1024]⟩
abbrev S1x1024 : Shape := ⟨2, ![1, 1024]⟩
abbrev S1x1x1024 : Shape := ⟨3, ![1, 1, 1024]⟩
abbrev S1024x1 : Shape := ⟨2, ![1024, 1]⟩
abbrev S64x512 : Shape := ⟨2, ![64, 512]⟩

abbrev nBuf : Space → Nat
  | .hbm => 23
  | .vmem => 15
  | .smem => 0
  | _ => 0

abbrev bufTy : (tb : Table) → Fin (tcTables nBuf tb) → BufTy
  | .hbm, ⟨0, _⟩ => ⟨S64x512x1024, .f32⟩
  | .hbm, ⟨1, _⟩ => ⟨S64x1024, .i32⟩
  | .hbm, ⟨2, _⟩ => ⟨S64x1024, .i1⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S512x1024, .f32⟩
  | .hbm, ⟨9, _⟩ => ⟨S512, .f32⟩
  | .hbm, ⟨10, _⟩ => ⟨S1x512, .f32⟩
  | .hbm, ⟨11, _⟩ => ⟨S1, .f32⟩
  | .hbm, ⟨12, _⟩ => ⟨S64x1x1024, .i1⟩
  | .hbm, ⟨13, _⟩ => ⟨S512x1, .f32⟩
  | .hbm, ⟨14, _⟩ => ⟨S512x1, .f32⟩
  | .hbm, ⟨15, _⟩ => ⟨S1x512, .f32⟩
  | .hbm, ⟨16, _⟩ => ⟨S1024x512, .f32⟩
  | .hbm, ⟨17, _⟩ => ⟨S1x512, .f32⟩
  | .hbm, ⟨18, _⟩ => ⟨S512x1, .f32⟩
  | .hbm, ⟨19, _⟩ => ⟨S1x1, .f32⟩
  | .hbm, ⟨20, _⟩ => ⟨S64x1x1024, .i32⟩
  | .hbm, ⟨21, _⟩ => ⟨S64x1, .f32⟩
  | .hbm, ⟨22, _⟩ => ⟨S64x1024, .f32⟩
  | .local _ .vmem, ⟨0, _⟩ => ⟨S8x512x1024, .f32⟩
  | .local _ .vmem, ⟨1, _⟩ => ⟨S8x512x1024, .f32⟩
  | .local _ .vmem, ⟨2, _⟩ => ⟨S8x1x1024, .i32⟩
  | .local _ .vmem, ⟨3, _⟩ => ⟨S8x1x1024, .i32⟩
  | .local _ .vmem, ⟨4, _⟩ => ⟨S512x512, .f32⟩
  | .local _ .vmem, ⟨5, _⟩ => ⟨S512x1, .f32⟩
  | .local _ .vmem, ⟨6, _⟩ => ⟨S512x512, .f32⟩
  | .local _ .vmem, ⟨7, _⟩ => ⟨S512x1, .f32⟩
  | .local _ .vmem, ⟨8, _⟩ => ⟨S1x512, .f32⟩
  | .local _ .vmem, ⟨9, _⟩ => ⟨S1024x512, .f32⟩
  | .local _ .vmem, ⟨10, _⟩ => ⟨S1x512, .f32⟩
  | .local _ .vmem, ⟨11, _⟩ => ⟨S512x1, .f32⟩
  | .local _ .vmem, ⟨12, _⟩ => ⟨S1x1, .f32⟩
  | .local _ .vmem, ⟨13, _⟩ => ⟨S64x1, .f32⟩
  | .local _ .vmem, ⟨14, _⟩ => ⟨S64x1024, .f32⟩
  | _, _ => ⟨S64x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call0_v0 : Ref sig .tc := ⟨.hbm, 20, rfl⟩
abbrev main_v8_0 : Ref sig .tc := ⟨.hbm, 21, rfl⟩
abbrev main_v8_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14

abbrev nD : Nat := 1
abbrev τ : Topo := Topo.v7x

variable {F : FTy → Type} [FloatOps F]

abbrev grid0 : Pipeline.Grid := ⟨1, ![8], ![false]⟩

def k0_off1 (i : grid0.Coords) (c0_i32 : BitVec 32) : Fin 2 → Nat :=
  let arg0 : BitVec 32 := BitVec.ofNat 32 (i 0).val
  let c8_i32 : BitVec 32 := 8#32
  let v38 : BitVec 32 := Scalar.muli arg0 c8_i32
  let v39 : BitVec 32 := Scalar.addi v38 c0_i32
  let v40 : Index := Scalar.indexCast v39
  let c0_23 : Index := 0#32
  ![v40.toNat, 0]
def k0_cond1 (i : grid0.Coords) : BitVec 1 :=
  let arg0 : BitVec 32 := BitVec.ofNat 32 (i 0).val
  let c7_i32_206 : BitVec 32 := 7#32
  let v336 : BitVec 1 := Scalar.cmpi .eq arg0 c7_i32_206
  let v337 : BitVec 32 := Scalar.extui v336
  let c0_i32_207 : BitVec 32 := 0#32
  let v338 : BitVec 1 := Scalar.cmpi .ne v337 c0_i32_207
  v338

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S64x512x1024 : Shape := ⟨3, ![64, 512, 1024]⟩
abbrev S64x1024 : Shape := ⟨2, ![64, 1024]⟩
abbrev S512x512 : Shape := ⟨2, ![512, 512]⟩
abbrev S512 : Shape := ⟨1, ![512]⟩
abbrev S512x1024 : Shape := ⟨2, ![512, 1024]⟩
abbrev S1x512 : Shape := ⟨2, ![1, 512]⟩
abbrev S1 : Shape := ⟨1, ![1]⟩
abbrev S512x64x1024 : Shape := ⟨3, ![512, 64, 1024]⟩
abbrev S1x512x1 : Shape := ⟨3, ![1, 512, 1]⟩
abbrev S_ : Shape := ⟨0, ![]⟩
abbrev S64x1024x512 : Shape := ⟨3, ![64, 1024, 512]⟩
abbrev S1x1x512 : Shape := ⟨3, ![1, 1, 512]⟩
abbrev S64 : Shape := ⟨1, ![64]⟩
abbrev S64x1 : Shape := ⟨2, ![64, 1]⟩
abbrev S64x512 : Shape := ⟨2, ![64, 512]⟩
abbrev S64x1x512 : Shape := ⟨3, ![64, 1, 512]⟩
abbrev S1024x512 : Shape := ⟨2, ![1024, 512]⟩
abbrev S512x1 : Shape := ⟨2, ![512, 1]⟩
abbrev S1x1 : Shape := ⟨2, ![1, 1]⟩

abbrev nBuf : Space → Nat
  | .hbm => 62
  | .vmem => 0
  | .smem => 0
  | _ => 0

abbrev bufTy : (tb : Table) → Fin (tcTables nBuf tb) → BufTy
  | .hbm, ⟨0, _⟩ => ⟨S64x512x1024, .f32⟩
  | .hbm, ⟨1, _⟩ => ⟨S64x1024, .i32⟩
  | .hbm, ⟨2, _⟩ => ⟨S64x1024, .i1⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S512x1024, .f32⟩
  | .hbm, ⟨9, _⟩ => ⟨S512, .f32⟩
  | .hbm, ⟨10, _⟩ => ⟨S1x512, .f32⟩
  | .hbm, ⟨11, _⟩ => ⟨S1, .f32⟩
  | .hbm, ⟨12, _⟩ => ⟨S512x64x1024, .f32⟩
  | .hbm, ⟨13, _⟩ => ⟨S64x512x1024, .f32⟩
  | .hbm, ⟨14, _⟩ => ⟨S1x512x1, .f32⟩
  | .hbm, ⟨15, _⟩ => ⟨S64x512x1024, .f32⟩
  | .hbm, ⟨16, _⟩ => ⟨S64x512x1024, .f32⟩
  | .hbm, ⟨17, _⟩ => ⟨S_, .f32⟩
  | .hbm, ⟨18, _⟩ => ⟨S64x512x1024, .f32⟩
  | .hbm, ⟨19, _⟩ => ⟨S64x512x1024, .f32⟩
  | .hbm, ⟨20, _⟩ => ⟨S64x1024x512, .f32⟩
  | .hbm, ⟨21, _⟩ => ⟨S64x1024x512, .f32⟩
  | .hbm, ⟨22, _⟩ => ⟨S1x1x512, .f32⟩
  | .hbm, ⟨23, _⟩ => ⟨S64x1024x512, .f32⟩
  | .hbm, ⟨24, _⟩ => ⟨S64x1024x512, .f32⟩
  | .hbm, ⟨25, _⟩ => ⟨S64x1024x512, .f32⟩
  | .hbm, ⟨26, _⟩ => ⟨S64x1024, .f32⟩
  | .hbm, ⟨27, _⟩ => ⟨S_, .f32⟩
  | .hbm, ⟨28, _⟩ => ⟨S_, .f32⟩
  | .hbm, ⟨29, _⟩ => ⟨S64x1024, .f32⟩
  | .hbm, ⟨30, _⟩ => ⟨S64x1024, .f32⟩
  | .hbm, ⟨31, _⟩ => ⟨S_, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S64x1, .f32⟩
  | .hbm, ⟨37, _⟩ => ⟨S64x1024, .f32⟩
  | .hbm, ⟨38, _⟩ => ⟨S64x1024, .f32⟩
  | .hbm, ⟨39, _⟩ => ⟨S64x1024, .f32⟩
  | .hbm, ⟨40, _⟩ => ⟨S_, .f32⟩
  | .hbm, ⟨41, _⟩ => ⟨S64, .f32⟩
  | .hbm, ⟨42, _⟩ => ⟨S64x1, .f32⟩
  | .hbm, ⟨43, _⟩ => ⟨S64x1024, .f32⟩
  | .hbm, ⟨44, _⟩ => ⟨S64x1024, .f32⟩
  | .hbm, ⟨45, _⟩ => ⟨S64x512, .f32⟩
  | .hbm, ⟨46, _⟩ => ⟨S64x1x512, .f32⟩
  | .hbm, ⟨47, _⟩ => ⟨S64x512, .f32⟩
  | .hbm, ⟨48, _⟩ => ⟨S64x1024, .f32⟩
  | .hbm, ⟨49, _⟩ => ⟨S1024x512, .f32⟩
  | .hbm, ⟨50, _⟩ => ⟨S64x512, .f32⟩
  | .hbm, ⟨51, _⟩ => ⟨S1x512, .f32⟩
  | .hbm, ⟨52, _⟩ => ⟨S64x512, .f32⟩
  | .hbm, ⟨53, _⟩ => ⟨S64x512, .f32⟩
  | .hbm, ⟨54, _⟩ => ⟨S_, .f32⟩
  | .hbm, ⟨55, _⟩ => ⟨S64x512, .f32⟩
  | .hbm, ⟨56, _⟩ => ⟨S64x512, .f32⟩
  | .hbm, ⟨57, _⟩ => ⟨S512x1, .f32⟩
  | .hbm, ⟨58, _⟩ => ⟨S64x1, .f32⟩
  | .hbm, ⟨59, _⟩ => ⟨S1x1, .f32⟩
  | .hbm, ⟨60, _⟩ => ⟨S64x1, .f32⟩
  | .hbm, ⟨61, _⟩ => ⟨S64x1, .f32⟩
  | _, _ => ⟨S64x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_call1_v0 : Ref sig .tc := ⟨.hbm, 28, rfl⟩
abbrev main_call1_v1 : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call2_cst : Ref sig .tc := ⟨.hbm, 54, rfl⟩
abbrev main_call2_v0 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]
-- ==== Proof.Row.lean ====
module

public import proofs.«01_k».proof.Proof.Gen.KernelIdeal.Frame
public import proofs.«01_k».proof.Proof.Gen.KernelIdeal.Skeleton
public import Idealize.ShloMosaic.Lib.WritesUnit
public import Idealize.ShloMosaic.Lib.WholeRead
public import Idealize.ShloMosaic.Lib.ValueIdx
public import Idealize.ShloMosaic.Lib.WordCmp

/-! What one plan contributes to the combined array, as a function of the blocks the kernel reads; and what eight
rows written one after the other leave in the combined array. -/

@[expose] public section

set_option maxRecDepth 16384

noncomputable section

namespace Cert.Proof

open Idealize.ShloMosaic Idealize.ShloMosaic.TcCoe
open Idealize.ShloMosaic.ValueIdx
open Cert.KernelIdeal Cert.KernelIdeal.Gen

variable {F : FTy → Type} [FloatOps F]

/-! ## One plan's row -/

/-- The row the kernel stores for one plan: from the plan's features `t` and mask `k`, the embedding's weights `w`
    and bias `b`, the attention layer's weights `wa` and bias `ba`, and the score vector `v`. -/
def planRow (t : Vec F S1x512x1024 .f32) (k : Vec F S1x1x1024 .i32) (w : Vec F S512x512 .f32) (b : Vec F S512x1 .f32)
    (wa : Vec F S512x512 .f32) (ba : Vec F S512x1 .f32) (v : Vec F S1x512 .f32) : FVec F S1x1024 .f32 :=
  k0_pay5 (k0_pay3 t w b) (k0_pay4 t w b wa ba v k) (constant S512x1 .f32 0x00000000#32)

section Spellings

variable (t : Vec F S1x512x1024 .f32) (k : Vec F S1x1x1024 .i32) (w : Vec F S512x512 .f32) (b : Vec F S512x1 .f32)
  (wa : Vec F S512x512 .f32) (ba : Vec F S512x1 .f32) (v : Vec F S1x512 .f32)

/-- The kernel's text computes the second plan's row in two pieces; together they are `planRow`. -/
theorem row1_eq : k0_pay8 (k0_pay6 t w b) (k0_pay7 t w b wa ba v k) = planRow t k w b wa ba v := rfl

/-- The third plan's row, in its own pieces, is `planRow`. -/
theorem row2_eq : k0_pay11 (k0_pay9 t w b) (k0_pay10 t w b wa ba v) k = planRow t k w b wa ba v := rfl

/-- The fourth plan's row, in its own pieces, is `planRow`. -/
theorem row3_eq : k0_pay14 (k0_pay12 t w b) (k0_pay13 t w b wa) ba v k = planRow t k w b wa ba v := rfl

/-- The fifth plan's row, in its own pieces, is `planRow`. -/
theorem row4_eq : k0_pay17 (k0_pay15 t w) (k0_pay16 b) wa ba v k = planRow t k w b wa ba v := rfl

/-- The sixth plan's row, in one piece, is `planRow`. -/
theorem row5_eq : k0_pay18 t w b wa ba v k = planRow t k w b wa ba v := rfl

/-- The seventh plan's row, in its own pieces, is `planRow`. -/
theorem row6_eq : k0_pay21 (k0_pay19 t w b) (k0_pay20 t w b wa ba v k) = planRow t k w b wa ba v := rfl

/-- The eighth plan's row, in its own pieces, is `planRow`. -/
theorem row7_eq : k0_pay1 (k0_pay22 t w b) (k0_pay23 t w b wa ba v) (k0_pay24 k) = planRow t k w b wa ba v := rfl

end Spellings

/-! ## Loads -/

/-- Plan `j`'s slab of a block of eight. -/
def slab {α : Type} {n : Nat} {l : Nat} (j : Fin 8) (X : (⟨3, ![8, n, l]⟩ : Shape).Idx → α) : (⟨3, ![1, n, l]⟩ : Shape).Idx → α :=
  fun x => X (ix3 j (x 1) (x 2))

/-- A load of plan `j`'s slab from a whole buffer that reads `X` reads that slab of `X`. -/
theorem readAt_slab {n l : Nat} {e : EltTy} {m : Memref sig .tc .vmem (⟨3, ![8, n, l]⟩ : Shape) e} (h : m.IsWhole)
    (X : (⟨3, ![8, n, l]⟩ : Shape).Idx → Elt F e) (o : Nat) (j : Fin 8) (hj : o = j.val)
    (inb : ∀ a, (![o, 0, 0] : Fin 3 → Nat) a + (⟨3, ![1, n, l]⟩ : Shape).size a ≤ (⟨3, ![8, n, l]⟩ : Shape).size a) :
    View.readAt (Elt F) m.view (Rect.unit (s := (⟨3, ![8, n, l]⟩ : Shape)) ![o, 0, 0] (⟨3, ![1, n, l]⟩ : Shape).size inb).toLoadRect (h.unread X)
      = slab j X := by
  subst hj
  funext x
  rw [h.readAt_unread]
  unfold slab
  congr 1
  funext a
  apply Fin.ext
  have h0 : (x 0).val < 1 := (x 0).isLt
  match a with
  | ⟨0, _⟩ => show j.val + 1 * (x 0).val = j.val; omega
  | ⟨1, _⟩ => show 0 + 1 * (x 1).val = (x 1).val; omega
  | ⟨2, _⟩ => show 0 + 1 * (x 2).val = (x 2).val; omega

/-- A load of everything from a whole rank-2 buffer that reads `X` reads `X`. -/
theorem readAt_all {n l : Nat} {e : EltTy} {m : Memref sig .tc .vmem (⟨2, ![n, l]⟩ : Shape) e} (h : m.IsWhole)
    (X : (⟨2, ![n, l]⟩ : Shape).Idx → Elt F e)
    (inb : ∀ a, (![0, 0] : Fin 2 → Nat) a + (⟨2, ![n, l]⟩ : Shape).size a ≤ (⟨2, ![n, l]⟩ : Shape).size a) :
    View.readAt (Elt F) m.view (Rect.unit (s := (⟨2, ![n, l]⟩ : Shape)) ![0, 0] (⟨2, ![n, l]⟩ : Shape).size inb).toLoadRect (h.unread X) = X := by
  funext x
  rw [h.readAt_unread]
  congr 1
  funext a
  apply Fin.ext
  match a with
  | ⟨0, _⟩ => show 0 + 1 * (x 0).val = (x 0).val; omega
  | ⟨1, _⟩ => show 0 + 1 * (x 1).val = (x 1).val; omega

/-- A load of everything through a rank-2 view reads what the view reads. -/
theorem readAt_all_view {n l : Nat} {e : EltTy} (v : View sig .tc .vmem (⟨2, ![n, l]⟩ : Shape) e) (f : v.ty.Contents (Elt F))
    (inb : ∀ a, (![0, 0] : Fin 2 → Nat) a + (⟨2, ![n, l]⟩ : Shape).size a ≤ (⟨2, ![n, l]⟩ : Shape).size a) :
    View.readAt (Elt F) v (Rect.unit (s := (⟨2, ![n, l]⟩ : Shape)) ![0, 0] (⟨2, ![n, l]⟩ : Shape).size inb).toLoadRect f = v.read (Elt F) f := by
  funext x
  show v.read (Elt F) f ((Rect.unit (s := (⟨2, ![n, l]⟩ : Shape)) ![0, 0] (⟨2, ![n, l]⟩ : Shape).size inb).toLoadRect.idx x) = v.read (Elt F) f x
  congr 1
  funext a
  apply Fin.ext
  match a with
  | ⟨0, _⟩ => show 0 + 1 * (x 0).val = (x 0).val; omega
  | ⟨1, _⟩ => show 0 + 1 * (x 1).val = (x 1).val; omega

/-- The eight rows one grid point stores, from its block of features `x0`, its block of masks `x1` and the weights. -/
def planRows (x0 : Vec F S8x512x1024 .f32) (x1 : Vec F S8x1x1024 .i32) (x2 : Vec F S512x512 .f32) (x3 : Vec F S512x1 .f32)
    (x4 : Vec F S512x512 .f32) (x5 : Vec F S512x1 .f32) (x6 : Vec F S1x512 .f32) : Fin 8 → FVec F S1x1024 .f32 :=
  fun j => planRow (slab j x0) (slab j x1) x2 x3 x4 x5 x6

/-- A slab of one plan lies inside a block of eight. -/
theorem slab_inb {n l : Nat} (j : Fin 8) (a : Fin 3) :
    (![j.val, 0, 0] : Fin 3 → Nat) a + (⟨3, ![1, n, l]⟩ : Shape).size a ≤ (⟨3, ![8, n, l]⟩ : Shape).size a := by
  have := j.isLt
  match a with
  | ⟨0, _⟩ => show j.val + 1 ≤ 8; omega
  | ⟨1, _⟩ => show 0 + n ≤ n; omega
  | ⟨2, _⟩ => show 0 + l ≤ l; omega

/-- The whole of a rank-2 buffer lies inside it. -/
theorem all_inb {n l : Nat} (a : Fin 2) :
    (![0, 0] : Fin 2 → Nat) a + (⟨2, ![n, l]⟩ : Shape).size a ≤ (⟨2, ![n, l]⟩ : Shape).size a := by
  match a with
  | ⟨0, _⟩ => show 0 + n ≤ n; omega
  | ⟨1, _⟩ => show 0 + l ≤ l; omega

/-- The row computed from the loads of plan `j`'s slabs and of the weights, out of whole buffers that read the blocks, is
    row `j` of the grid point. -/
theorem planRow_loads {arg1 : Memref sig .tc .vmem S8x512x1024 .f32} (harg1 : arg1.IsWhole) {arg2 : Memref sig .tc .vmem S8x1x1024 .i32}
    (harg2 : arg2.IsWhole) {arg3 : Memref sig .tc .vmem S512x512 .f32} (harg3 : arg3.IsWhole) {arg4 : Memref sig .tc .vmem S512x1 .f32}
    (harg4 : arg4.IsWhole) {arg5 : Memref sig .tc .vmem S512x512 .f32} (harg5 : arg5.IsWhole) {arg6 : Memref sig .tc .vmem S512x1 .f32}
    (harg6 : arg6.IsWhole) {arg7 : Memref sig .tc .vmem S1x512 .f32} (harg7 : arg7.IsWhole)
    (x0 : Vec F S8x512x1024 .f32) (x1 : Vec F S8x1x1024 .i32) (x2 : Vec F S512x512 .f32) (x3 : Vec F S512x1 .f32)
    (x4 : Vec F S512x512 .f32) (x5 : Vec F S512x1 .f32) (x6 : Vec F S1x512 .f32) (j : Fin 8) :
    planRow (View.readAt (Elt F) arg1.view (Rect.unit (s := S8x512x1024) ![j.val, 0, 0] S1x512x1024.size (slab_inb j)).toLoadRect (harg1.unread x0))
      (View.readAt (Elt F) arg2.view (Rect.unit (s := S8x1x1024) ![j.val, 0, 0] S1x1x1024.size (slab_inb j)).toLoadRect (harg2.unread x1))
      (View.readAt (Elt F) arg3.view (Rect.unit (s := S512x512) ![0, 0] S512x512.size all_inb).toLoadRect (harg3.unread x2))
      (View.readAt (Elt F) arg4.view (Rect.unit (s := S512x1) ![0, 0] S512x1.size all_inb).toLoadRect (harg4.unread x3))
      (View.readAt (Elt F) arg5.view (Rect.unit (s := S512x512) ![0, 0] S512x512.size all_inb).toLoadRect (harg5.unread x4))
      (View.readAt (Elt F) arg6.view (Rect.unit (s := S512x1) ![0, 0] S512x1.size all_inb).toLoadRect (harg6.unread x5))
      (View.readAt (Elt F) arg7.view (Rect.unit (s := S1x512) ![0, 0] S1x512.size all_inb).toLoadRect (harg7.unread x6))
      = planRows x0 x1 x2 x3 x4 x5 x6 j := by
  have e0 := readAt_slab harg1 x0 j.val j rfl (slab_inb j)
  have e1 := readAt_slab harg2 x1 j.val j rfl (slab_inb j)
  have e2 := readAt_all harg3 x2 all_inb
  have e3 := readAt_all harg4 x3 all_inb
  have e4 := readAt_all harg5 x4 all_inb
  have e5 := readAt_all harg6 x5 all_inb
  have e6 := readAt_all harg7 x6 all_inb
  rw [e0, e1, e2, e3, e4, e5, e6]
  rfl

/-- One write of everything over a rank-2 buffer leaves its payload. -/
theorem read_all_write {n l : Nat} {e : EltTy} (v : View sig .tc .vmem (⟨2, ![n, l]⟩ : Shape) e) (f : v.ty.Contents (Elt F))
    (inb : ∀ a, (![0, 0] : Fin 2 → Nat) a + (⟨2, ![n, l]⟩ : Shape).size a ≤ (⟨2, ![n, l]⟩ : Shape).size a)
    (w : (⟨2, ![n, l]⟩ : Shape).Idx → Elt F e) :
    v.read (Elt F) (v.writes (Elt F) f [⟨Rect.unit (s := (⟨2, ![n, l]⟩ : Shape)) ![0, 0] (⟨2, ![n, l]⟩ : Shape).size inb, w⟩]) = w := by
  funext x
  exact View.read_writes_cons_rows_of_mem (size := (⟨2, ![n, l]⟩ : Shape).size) v f inb w [] x x rfl (Nat.zero_add _).symm rfl

/-- The head's output from equal operands is equal. -/
theorem head_congr {a a' : Vec F S64x1024 .f32} {b b' : Vec F S1024x512 .f32} {c c' : Vec F S1x512 .f32} {d d' : Vec F S512x1 .f32}
    {e e' : Vec F S1x1 .f32} (ha : a = a') (hb : b = b') (hc : c = c') (hd : d = d') (he : e = e') :
    k0_pay2 a b c d e = k0_pay2 a' b' c' d' e' := by
  rw [ha, hb, hc, hd, he]

/-! ## Eight rows -/

/-- The combined array after the eight rows of grid point `t` are written over `y`: row `8 t + j` is `rows j`, every
    other row is as it was. -/
def withRows (t : Nat) (rows : Fin 8 → FVec F S1x1024 .f32) (y : Vec F S64x1024 .f32) : Vec F S64x1024 .f32 := fun x =>
  if h : 8 * t ≤ (x 0).val ∧ (x 0).val < 8 * t + 8 then rows ⟨(x 0).val - 8 * t, by omega⟩ (ix2 0 (x 1)) else y x

/-- Where grid point `i` stores its row `j`: row `8 i + j`, column 0. -/
theorem off_eq (i : grid0.Coords) (j : Nat) (hj : j < 8) : k0_off1 i (BitVec.ofNat 32 j) = ![8 * (i 0).val + j, 0] := by
  have h0 : (i 0).val < 8 := (i 0).isLt
  have : (k0_off1 i (BitVec.ofNat 32 j)) = ![(IntOp.addi (IntOp.muli (BitVec.ofNat 32 (i 0).val) 8#32) (BitVec.ofNat 32 j)).toNat, 0] := rfl
  rw [this]
  have e : (IntOp.addi (IntOp.muli (BitVec.ofNat 32 (i 0).val) 8#32) (BitVec.ofNat 32 j)).toNat = 8 * (i 0).val + j := by
    simp only [IntOp.addi, IntOp.muli, BitVec.toNat_add, BitVec.toNat_mul, BitVec.toNat_ofNat]
    omega
  rw [e]

/-- A row `j` of grid point `i` written last over what the writes `L` left: that row reads it, the others read `L`. -/
theorem read_row (v : View sig .tc .vmem S64x1024 .f32) (f : v.ty.Contents (Elt F)) (i : grid0.Coords) (j : Nat) (hj : j < 8)
    (inb) (w : S1x1024.Idx → Elt F .f32) (L : List (View.Piece (Elt F) S64x1024 .f32)) (x : S64x1024.Idx) :
    v.read (Elt F) (v.writes (Elt F) f (⟨Rect.unit (s := S64x1024) (k0_off1 i (BitVec.ofNat 32 j)) S1x1024.size inb, w⟩ :: L)) x
      = if (x 0).val = 8 * (i 0).val + j then w (ix2 0 (x 1)) else v.read (Elt F) (v.writes (Elt F) f L) x := by
  by_cases h : (x 0).val = 8 * (i 0).val + j
  · rw [if_pos h]
    exact View.read_writes_cons_rows_of_mem (size := S1x1024.size) v f inb w L x (ix2 0 (x 1)) (off_eq i j hj) h rfl
  · rw [if_neg h]
    exact View.read_writes_cons_rows_of_not_mem (W := 1) (size := S1x1024.size) v f inb w L x (off_eq i j hj) rfl (by omega)

/-- Eight rows written in order over contents that read `y` leave `withRows`. -/
theorem read_eight (v : View sig .tc .vmem S64x1024 .f32) (f : v.ty.Contents (Elt F)) (i : grid0.Coords)
    (rows : Fin 8 → FVec F S1x1024 .f32) (y : Vec F S64x1024 .f32) (hf : v.read (Elt F) f = y)
    (w0 w1 w2 w3 w4 w5 w6 w7 : S1x1024.Idx → Elt F .f32)
    (e0 : w0 = rows 0) (e1 : w1 = rows 1) (e2 : w2 = rows 2) (e3 : w3 = rows 3) (e4 : w4 = rows 4) (e5 : w5 = rows 5)
    (e6 : w6 = rows 6) (e7 : w7 = rows 7) :
    v.read (Elt F) (v.writes (Elt F) f
      [⟨Rect.unit (s := S64x1024) (k0_off1 i 7#32) S1x1024.size (k0_off1_inb i 7), w7⟩,
       ⟨Rect.unit (s := S64x1024) (k0_off1 i 6#32) S1x1024.size (k0_off1_inb i 6), w6⟩,
       ⟨Rect.unit (s := S64x1024) (k0_off1 i 5#32) S1x1024.size (k0_off1_inb i 5), w5⟩,
       ⟨Rect.unit (s := S64x1024) (k0_off1 i 4#32) S1x1024.size (k0_off1_inb i 4), w4⟩,
       ⟨Rect.unit (s := S64x1024) (k0_off1 i 3#32) S1x1024.size (k0_off1_inb i 3), w3⟩,
       ⟨Rect.unit (s := S64x1024) (k0_off1 i 2#32) S1x1024.size (k0_off1_inb i 2), w2⟩,
       ⟨Rect.unit (s := S64x1024) (k0_off1 i 1#32) S1x1024.size (k0_off1_inb i 1), w1⟩,
       ⟨Rect.unit (s := S64x1024) (k0_off1 i 0#32) S1x1024.size (k0_off1_inb i 0), w0⟩])
      = withRows (i 0).val rows y := by
  subst hf e0 e1 e2 e3 e4 e5 e6 e7
  funext x
  rw [read_row v f i 7 (by decide), read_row v f i 6 (by decide), read_row v f i 5 (by decide), read_row v f i 4 (by decide),
    read_row v f i 3 (by decide), read_row v f i 2 (by decide), read_row v f i 1 (by decide), read_row v f i 0 (by decide),
    View.writes_nil]
  unfold withRows
  by_cases h : 8 * (i 0).val ≤ (x 0).val ∧ (x 0).val < 8 * (i 0).val + 8
  · rw [dif_pos h]
    obtain ⟨j, hj, hx⟩ : ∃ j, j < 8 ∧ (x 0).val = 8 * (i 0).val + j := ⟨(x 0).val - 8 * (i 0).val, by omega, by omega⟩
    have hjj : (⟨(x 0).val - 8 * (i 0).val, by omega⟩ : Fin 8) = ⟨j, hj⟩ := Fin.ext (by show (x 0).val - 8 * (i 0).val = j; omega)
    rw [hjj, hx]
    simp only [Nat.add_left_cancel_iff]
    interval_cases j <;> rfl
  · rw [dif_neg h, if_neg (by omega), if_neg (by omega), if_neg (by omega), if_neg (by omega), if_neg (by omega),
      if_neg (by omega), if_neg (by omega), if_neg (by omega)]

end Cert.Proof

end
-- ==== Proof.BodyInner.lean ====
module

public import proofs.«01_k».proof.Proof.Row
public import Idealize.ShloMosaic.Lib.Claim

/-! The kernel body's run at one grid point, its results named: the eight rows over the combined array and, at the last
point, the head's output. -/

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 1000000 in
/-- The body at a grid point other than the last: the inputs and the output are left as found, and the combined array
    has the point's eight rows written over it. -/
theorem body_inner (c : Dev nD) (i : grid0.Coords) (arg1 : Memref sig .tc .vmem S8x512x1024 .f32) (harg1 : arg1.IsWhole) (arg2 : Memref sig .tc .vmem S8x1x1024 .i32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1x512 .f32) (harg9 : arg9.IsWhole) (arg10 : Memref sig .tc .vmem S512x1 .f32) (harg10 : arg10.IsWhole) (arg11 : Memref sig .tc .vmem S1x1 .f32) (harg11 : arg11.IsWhole) (arg12 : Memref sig .tc .vmem S64x1 .f32) (harg12 : arg12.IsWhole) (arg13 : Memref sig .tc .vmem S64x1024 .f32) (harg13 : arg13.IsWhole) (hc0 : ¬k0_cond1 i = 1#1)
    (x0 : Vec F S8x512x1024 .f32) (x1 : Vec F S8x1x1024 .i32) (x2 : Vec F S512x512 .f32) (x3 : Vec F S512x1 .f32) (x4 : Vec F S512x512 .f32) (x5 : Vec F S512x1 .f32) (x6 : Vec F S1x512 .f32) (x7 : Vec F S1024x512 .f32) (x8 : Vec F S1x512 .f32) (x9 : Vec F S512x1 .f32) (x10 : Vec F S1x1 .f32)
    (y11 : Vec F S64x1 .f32) (y12 : Vec F S64x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ owns (c : Thread nD τ) arg12 fullShare y11 ∗ owns (c : Thread nD τ) arg13 fullShare y12
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
              ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
              ∗ owns (c : Thread nD τ) arg12 fullShare y11
              ∗ owns (c : Thread nD τ) arg13 fullShare (withRows (i 0).val (planRows x0 x1 x2 x3 x4 x5 x6) y12)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K := by
    intro E K
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact hf11
      iexact H11
    iexists _; isplitr; swap; · iexact H12
    ipureintro
    exact read_eight arg13.view f12 i (planRows x0 x1 x2 x3 x4 x5 x6) y12 hf12 _ _ _ _ _ _ _ _
        (planRow_loads harg1 harg2 harg3 harg4 harg5 harg6 harg7 x0 x1 x2 x3 x4 x5 x6 0)
        ((row1_eq _ _ _ _ _ _ _).trans (planRow_loads harg1 harg2 harg3 harg4 harg5 harg6 harg7 x0 x1 x2 x3 x4 x5 x6 1))
        ((row2_eq _ _ _ _ _ _ _).trans (planRow_loads harg1 harg2 harg3 harg4 harg5 harg6 harg7 x0 x1 x2 x3 x4 x5 x6 2))
        ((row3_eq _ _ _ _ _ _ _).trans (planRow_loads harg1 harg2 harg3 harg4 harg5 harg6 harg7 x0 x1 x2 x3 x4 x5 x6 3))
        ((row4_eq _ _ _ _ _ _ _).trans (planRow_loads harg1 harg2 harg3 harg4 harg5 harg6 harg7 x0 x1 x2 x3 x4 x5 x6 4))
        ((row5_eq _ _ _ _ _ _ _).trans (planRow_loads harg1 harg2 harg3 harg4 harg5 harg6 harg7 x0 x1 x2 x3 x4 x5 x6 5))
        ((row6_eq _ _ _ _ _ _ _).trans (planRow_loads harg1 harg2 harg3 harg4 harg5 harg6 harg7 x0 x1 x2 x3 x4 x5 x6 6))
        ((row7_eq _ _ _ _ _ _ _).trans (planRow_loads harg1 harg2 harg3 harg4 harg5 harg6 harg7 x0 x1 x2 x3 x4 x5 x6 7))

end Cert.Proof

end
-- ==== Proof.BodyLast.lean ====
module

public import proofs.«01_k».proof.Proof.BodyInner
public import Idealize.ShloMosaic.Lib.Claim

/-! The kernel body's run at one grid point, its results named: the eight rows over the combined array and, at the last
point, the head's output. -/

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 1000000 in
/-- The body at the last grid point: the inputs are left as found, the combined array has the point's eight rows
    written over it, and the output is the head applied to the combined array so completed. -/
theorem body_last (c : Dev nD) (i : grid0.Coords) (arg1 : Memref sig .tc .vmem S8x512x1024 .f32) (harg1 : arg1.IsWhole) (arg2 : Memref sig .tc .vmem S8x1x1024 .i32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1x512 .f32) (harg9 : arg9.IsWhole) (arg10 : Memref sig .tc .vmem S512x1 .f32) (harg10 : arg10.IsWhole) (arg11 : Memref sig .tc .vmem S1x1 .f32) (harg11 : arg11.IsWhole) (arg12 : Memref sig .tc .vmem S64x1 .f32) (harg12 : arg12.IsWhole) (arg13 : Memref sig .tc .vmem S64x1024 .f32) (harg13 : arg13.IsWhole) (hc0 : k0_cond1 i = 1#1)
    (x0 : Vec F S8x512x1024 .f32) (x1 : Vec F S8x1x1024 .i32) (x2 : Vec F S512x512 .f32) (x3 : Vec F S512x1 .f32) (x4 : Vec F S512x512 .f32) (x5 : Vec F S512x1 .f32) (x6 : Vec F S1x512 .f32) (x7 : Vec F S1024x512 .f32) (x8 : Vec F S1x512 .f32) (x9 : Vec F S512x1 .f32) (x10 : Vec F S1x1 .f32)
    (y11 : Vec F S64x1 .f32) (y12 : Vec F S64x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ owns (c : Thread nD τ) arg12 fullShare y11 ∗ owns (c : Thread nD τ) arg13 fullShare y12
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
              ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
              ∗ owns (c : Thread nD τ) arg12 fullShare (k0_pay2 (withRows (i 0).val (planRows x0 x1 x2 x3 x4 x5 x6) y12) x7 x8 x9 x10)
              ∗ owns (c : Thread nD τ) arg13 fullShare (withRows (i 0).val (planRows x0 x1 x2 x3 x4 x5 x6) y12)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K := by
    intro E K
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; swap; · iexact H11
      ipureintro
      refine (read_all_write arg12.view f11 all_inb _).trans (head_congr ?_ (readAt_all harg8 x7 all_inb)
        (readAt_all harg9 x8 all_inb) (readAt_all harg10 x9 all_inb) (readAt_all harg11 x10 all_inb))
      exact (readAt_all_view arg13.view _ all_inb).trans (read_eight arg13.view f12 i (planRows x0 x1 x2 x3 x4 x5 x6) y12 hf12 _ _ _ _ _ _ _ _
        (planRow_loads harg1 harg2 harg3 harg4 harg5 harg6 harg7 x0 x1 x2 x3 x4 x5 x6 0)
        ((row1_eq _ _ _ _ _ _ _).trans (planRow_loads harg1 harg2 harg3 harg4 harg5 harg6 harg7 x0 x1 x2 x3 x4 x5 x6 1))
        ((row2_eq _ _ _ _ _ _ _).trans (planRow_loads harg1 harg2 harg3 harg4 harg5 harg6 harg7 x0 x1 x2 x3 x4 x5 x6 2))
        ((row3_eq _ _ _ _ _ _ _).trans (planRow_loads harg1 harg2 harg3 harg4 harg5 harg6 harg7 x0 x1 x2 x3 x4 x5 x6 3))
        ((row4_eq _ _ _ _ _ _ _).trans (planRow_loads harg1 harg2 harg3 harg4 harg5 harg6 harg7 x0 x1 x2 x3 x4 x5 x6 4))
        ((row5_eq _ _ _ _ _ _ _).trans (planRow_loads harg1 harg2 harg3 harg4 harg5 harg6 harg7 x0 x1 x2 x3 x4 x5 x6 5))
        ((row6_eq _ _ _ _ _ _ _).trans (planRow_loads harg1 harg2 harg3 harg4 harg5 harg6 harg7 x0 x1 x2 x3 x4 x5 x6 6))
        ((row7_eq _ _ _ _ _ _ _).trans (planRow_loads harg1 harg2 harg3 harg4 harg5 harg6 harg7 x0 x1 x2 x3 x4 x5 x6 7)))
    iexists _; isplitr; swap; · iexact H12
    ipureintro
    exact read_eight arg13.view f12 i (planRows x0 x1 x2 x3 x4 x5 x6) y12 hf12 _ _ _ _ _ _ _ _
        (planRow_loads harg1 harg2 harg3 harg4 harg5 harg6 harg7 x0 x1 x2 x3 x4 x5 x6 0)
        ((row1_eq _ _ _ _ _ _ _).trans (planRow_loads harg1 harg2 harg3 harg4 harg5 harg6 harg7 x0 x1 x2 x3 x4 x5 x6 1))
        ((row2_eq _ _ _ _ _ _ _).trans (planRow_loads harg1 harg2 harg3 harg4 harg5 harg6 harg7 x0 x1 x2 x3 x4 x5 x6 2))
        ((row3_eq _ _ _ _ _ _ _).trans (planRow_loads harg1 harg2 harg3 harg4 harg5 harg6 harg7 x0 x1 x2 x3 x4 x5 x6 3))
        ((row4_eq _ _ _ _ _ _ _).trans (planRow_loads harg1 harg2 harg3 harg4 harg5 harg6 harg7 x0 x1 x2 x3 x4 x5 x6 4))
        ((row5_eq _ _ _ _ _ _ _).trans (planRow_loads harg1 harg2 harg3 harg4 harg5 harg6 harg7 x0 x1 x2 x3 x4 x5 x6 5))
        ((row6_eq _ _ _ _ _ _ _).trans (planRow_loads harg1 harg2 harg3 harg4 harg5 harg6 harg7 x0 x1 x2 x3 x4 x5 x6 6))
        ((row7_eq _ _ _ _ _ _ _).trans (planRow_loads harg1 harg2 harg3 harg4 harg5 harg6 harg7 x0 x1 x2 x3 x4 x5 x6 7))

end Cert.Proof

end
-- ==== Proof.Run.lean ====
module

public import proofs.«01_k».proof.Proof.BodyLast
public import proofs.«01_k».proof.Proof.Gen.KernelIdeal.Frame
public import proofs.«01_k».proof.Proof.Gen.KernelIdeal.Launch
public import proofs.«01_k».proof.Proof.Gen.KernelIdeal.Points

/-! The kernel's run over the whole grid: the combined array ends holding every plan's row, the output the head applied
to it, and the arguments are left as they were. -/

@[expose] public section

set_option maxRecDepth 16384

noncomputable section

namespace Cert.Proof

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid point that computes row `r` of the combined array. -/
def ptOf (r : Fin 64) : Fin cfg0.N := ⟨r.val / 8, by have := r.isLt; rw [show cfg0.N = 8 from N_0]; omega⟩

/-- The last grid point. -/
def ptLast : Fin cfg0.N := ⟨7, by rw [show cfg0.N = 8 from N_0]; decide⟩

/-- The eight rows of point `t`, from the blocks its windows hold. -/
def rowsAt (c : Dev nD) (t : Fin cfg0.N) : Fin 8 → FVec F S1x1024 .f32 :=
  planRows (iblk m c 0 t) (iblk m c 1 t) (iblk m c 2 t) (iblk m c 3 t) (iblk m c 4 t) (iblk m c 5 t) (iblk m c 6 t)

/-- The combined array: row `r` is row `r % 8` of point `r / 8`. -/
def combTo (c : Dev nD) : Vec F S64x1024 .f32 := fun x =>
  rowsAt m c (ptOf (x 0)) ⟨(x 0).val % 8, Nat.mod_lt _ (by decide)⟩ (ix2 0 (x 1))

/-- The output: the head applied to the combined array. -/
def outTo (c : Dev nD) : Vec F S64x1 .f32 :=
  k0_pay2 (combTo m c) (iblk m c 7 ptLast) (iblk m c 8 ptLast) (iblk m c 9 ptLast) (iblk m c 10 ptLast)

/-- What is tracked point by point: an input window's buffer keeps its block, the combined array's buffer agrees with
    the final one on the rows computed so far, the output's buffer holds the output after the last point. -/
def leaves (c : Dev nD) (w : Fin cfg0.W) (t : Fin cfg0.N) (Y X : (cfg0.win w).block.Idx → Elt F (cfg0.win w).elt) : Prop :=
  match w, Y, X with
  | ⟨11, _⟩, _, X => t.val = 7 → X = outTo m c
  | ⟨12, _⟩, _, X => ∀ x : S64x1024.Idx, (x 0).val < 8 * (t.val + 1) → X x = combTo m c x
  | _, Y, X => X = Y

/-- The proof data of the run. -/
def rdat (c : Dev nD) : RDat τ (Elt F) Unit ℕ (UR sig nD τ) ℕ cfg0 c where
  A w := V m c (Pipeline.arrRef spec0 w)
  after w t Y X := leaves m c w t Y X
  Φ _ := Pipeline.ΦA spec0 c
  q _ := fullShare
  owed _ := 0

/-- What an input window's buffer holds wherever the body is handed it: its block at that point (`hk`: the tracked
    relation keeps the buffer, `hb`: a fetch brings the block whole). -/
theorem finds_in (c : Dev nD) (w : Fin cfg0.W) (hw : (cfg0.win w).isOut = false)
    (hclip : ∀ t t' : Fin cfg0.N, (cfg0.win w).index t = (cfg0.win w).index t' →
      (cfg0.win w).clip (cfg0.grid.coords t) = (cfg0.win w).clip (cfg0.grid.coords t'))
    (hk : ∀ t Y X, (rdat m c).after w t Y X → X = Y) (t : Fin cfg0.N) (B : (cfg0.win w).block.Idx → Elt F (cfg0.win w).elt)
    (hb : ∀ d, (rdat m c).fetched w t d = B) (Y) (h : (rdat m c).Finds w t Y) : Y = B := by
  obtain ⟨d, hd⟩ := (rdat m c).finds_in_eq_fetched w hw hclip hk t Y h
  exact hd.trans (hb d)

theorem finds0 (c : Dev nD) (t : Fin cfg0.N) (Y) (h : (rdat m c).Finds 0 t Y) : Y = iblk m c 0 t :=
  finds_in m c 0 rfl (fun _ _ _ => rfl) (fun _ _ _ h => h) t _ (fun _ => rfl) Y h
theorem finds1 (c : Dev nD) (t : Fin cfg0.N) (Y) (h : (rdat m c).Finds 1 t Y) : Y = iblk m c 1 t :=
  finds_in m c 1 rfl (fun _ _ _ => rfl) (fun _ _ _ h => h) t _ (fun _ => rfl) Y h
theorem finds2 (c : Dev nD) (t : Fin cfg0.N) (Y) (h : (rdat m c).Finds 2 t Y) : Y = iblk m c 2 t :=
  finds_in m c 2 rfl (fun _ _ _ => rfl) (fun _ _ _ h => h) t _ (fun _ => rfl) Y h
theorem finds3 (c : Dev nD) (t : Fin cfg0.N) (Y) (h : (rdat m c).Finds 3 t Y) : Y = iblk m c 3 t :=
  finds_in m c 3 rfl (fun _ _ _ => rfl) (fun _ _ _ h => h) t _ (fun _ => rfl) Y h
theorem finds4 (c : Dev nD) (t : Fin cfg0.N) (Y) (h : (rdat m c).Finds 4 t Y) : Y = iblk m c 4 t :=
  finds_in m c 4 rfl (fun _ _ _ => rfl) (fun _ _ _ h => h) t _ (fun _ => rfl) Y h
theorem finds5 (c : Dev nD) (t : Fin cfg0.N) (Y) (h : (rdat m c).Finds 5 t Y) : Y = iblk m c 5 t :=
  finds_in m c 5 rfl (fun _ _ _ => rfl) (fun _ _ _ h => h) t _ (fun _ => rfl) Y h
theorem finds6 (c : Dev nD) (t : Fin cfg0.N) (Y) (h : (rdat m c).Finds 6 t Y) : Y = iblk m c 6 t :=
  finds_in m c 6 rfl (fun _ _ _ => rfl) (fun _ _ _ h => h) t _ (fun _ => rfl) Y h
theorem finds7 (c : Dev nD) (t : Fin cfg0.N) (Y) (h : (rdat m c).Finds 7 t Y) : Y = iblk m c 7 t :=
  finds_in m c 7 rfl (fun _ _ _ => rfl) (fun _ _ _ h => h) t _ (fun _ => rfl) Y h
theorem finds8 (c : Dev nD) (t : Fin cfg0.N) (Y) (h : (rdat m c).Finds 8 t Y) : Y = iblk m c 8 t :=
  finds_in m c 8 rfl (fun _ _ _ => rfl) (fun _ _ _ h => h) t _ (fun _ => rfl) Y h
theorem finds9 (c : Dev nD) (t : Fin cfg0.N) (Y) (h : (rdat m c).Finds 9 t Y) : Y = iblk m c 9 t :=
  finds_in m c 9 rfl (fun _ _ _ => rfl) (fun _ _ _ h => h) t _ (fun _ => rfl) Y h
theorem finds10 (c : Dev nD) (t : Fin cfg0.N) (Y) (h : (rdat m c).Finds 10 t Y) : Y = iblk m c 10 t :=
  finds_in m c 10 rfl (fun _ _ _ => rfl) (fun _ _ _ h => h) t _ (fun _ => rfl) Y h

/-- The combined array's buffer, as the body is handed it, holds the rows of the earlier points. -/
theorem finds12 (c : Dev nD) (t : Fin cfg0.N) (Y) (h : (rdat m c).Finds 12 t Y) :
    ∀ x : S64x1024.Idx, (x 0).val < 8 * t.val → Y x = combTo m c x := by
  intro x hx
  have hN : t.val < 8 := lt_of_lt_of_eq t.isLt (show cfg0.N = 8 from N_0)
  have ht : t.val ≠ 0 := by intro h0; rw [h0] at hx; omega
  have hf : (cfg0.win 12).fetch t = false := rfl
  rcases ((rdat m c).finds_of_pos hf ht Y).mp h with hfl | ⟨Y', -, hR⟩
  · have := (flush0_12 _).mp hfl
    simp only at this; omega
  · exact hR x (by show (x 0).val < 8 * (t.val - 1 + 1); omega)

theorem coord_val (t : Fin cfg0.N) : (grid0.coords t 0).val = t.val := by
  have ht : t.val < 8 := Nat.lt_of_lt_of_eq t.isLt N_0
  have e0 : (grid0.coords t 0).val = t.val / 1 % 8 := Pipeline.Grid.coords_val t 0 (by decide) rfl
  omega

/-- The head runs at the last point only. -/
theorem cond_iff : ∀ t : Fin cfg0.N, k0_cond1 (grid0.coords t) = 1#1 ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [k0_cond1, e0]
    word_cmp
   : ∀ t : Fin grid0.N, k0_cond1 (grid0.coords t) = 1#1 ↔ t.val % 8 = 7)

/-- With the point's rows written over, the combined array agrees with the final one one point further. -/
theorem rows_step (c : Dev nD) (t : Fin cfg0.N) (y : Vec F S64x1024 .f32)
    (hy : ∀ x : S64x1024.Idx, (x 0).val < 8 * t.val → y x = combTo m c x) (x : S64x1024.Idx)
    (hx : (x 0).val < 8 * (t.val + 1)) :
    withRows (grid0.coords t 0).val (rowsAt m c t) y x = combTo m c x := by
  rw [coord_val]
  unfold withRows
  split
  · rename_i h
    have e : ptOf (x 0) = t := Fin.ext (by show (x 0).val / 8 = t.val; omega)
    unfold combTo
    rw [e]
    have e' : (⟨(x 0).val - 8 * t.val, by omega⟩ : Fin 8) = ⟨(x 0).val % 8, Nat.mod_lt _ (by decide)⟩ :=
      Fin.ext (by show (x 0).val - 8 * t.val = (x 0).val % 8; omega)
    rw [e']
  · rename_i h
    exact hy x (by omega)

/-- At the last point the head is applied to the final combined array. -/
theorem out_last (c : Dev nD) (t : Fin cfg0.N) (ht : t.val = 7) (y : Vec F S64x1024 .f32)
    (hy : ∀ x : S64x1024.Idx, (x 0).val < 8 * t.val → y x = combTo m c x) :
    k0_pay2 (withRows (grid0.coords t 0).val (rowsAt m c t) y) (iblk m c 7 t) (iblk m c 8 t) (iblk m c 9 t) (iblk m c 10 t)
      = outTo m c := by
  obtain rfl : t = ptLast := Fin.ext ht
  have e : withRows (grid0.coords ptLast 0).val (rowsAt m c ptLast) y = combTo m c := by
    funext x
    exact rows_step m c ptLast y hy x (by have := (x 0).isLt; show (x 0).val < 64; exact this)
  rw [e]; rfl

theorem body_row (t : Fin cfg0.N) :
    defs₀ (F := F) .tc cfg0.body (cfg0.bodyArgs t (cfg0.slots t)) = bodyAt0 t := by
  unfold defs₀; rw [Defs.onTc_tc]

set_option maxHeartbeats 2000000 in
/-- The body at any point, from what is tracked before it to what is tracked after it. -/
theorem body_tracked (c : Dev nD) : (rdat (F := F) m c).BodyObligation (defs₀ (F := F)) Variants.none () Set.univ := by
  intro t Y hY
  rw [bigSep_W0, bigSep_W0, body_row]
  have hN : t.val < 8 := lt_of_lt_of_eq t.isLt (show cfg0.N = 8 from N_0)
  have h12 := finds12 m c t (Y 12) (hY 12)
  rw [finds0 m c t (Y 0) (hY 0), finds1 m c t (Y 1) (hY 1), finds2 m c t (Y 2) (hY 2), finds3 m c t (Y 3) (hY 3), finds4 m c t (Y 4) (hY 4), finds5 m c t (Y 5) (hY 5), finds6 m c t (Y 6) (hY 6), finds7 m c t (Y 7) (hY 7), finds8 m c t (Y 8) (hY 8), finds9 m c t (Y 9) (hY 9), finds10 m c t (Y 10) (hY 10)]
  rw [show (rdat m c).Φ t.succ = (rdat m c).Φ t.castSucc from rfl,
    show (rdat m c).owesAt () t.succ = (rdat m c).owesAt () t.castSucc from rfl]
  have kept : ∀ {s : Shape} {e : EltTy} (a : Memref sig .tc .vmem s e) (x : s.Idx → Elt F e),
      (owns (c : Thread nD τ) a fullShare x : sProp 𝕄) ⊢ iprop(∃ X, ⌜X = x⌝ ∗ owns (c : Thread nD τ) a fullShare X) := by
    intro s e a x
    iintro H; iexists x; isplitr; · ipureintro; exact rfl
    iexact H
  by_cases h0 : k0_cond1 (grid0.coords t) = 1#1
  · have h7 : t.val = 7 := by have := (cond_iff t).mp h0; omega
    iintro ⟨HΦ, Ho, H0, H1, H2, H3, H4, H5, H6, H7, H8, H9, H10, H11, H12⟩
    iapply (body_last c (grid0.coords t) _ _ _ _ _ _ _ _ _ _ _ _ _ _ _ _ _ _ _ _ _ _ _ _ _ _ h0 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (Y 11) (Y 12) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨H0, H1, H2, H3, H4, H5, H6, H7, H8, H9, H10, H11, H12⟩
    isplitl [HΦ]; · iexact HΦ
    isplitl [Ho]; · iexact Ho
    isplitl [H0]; · iapply kept $$ H0
    isplitl [H1]; · iapply kept $$ H1
    isplitl [H2]; · iapply kept $$ H2
    isplitl [H3]; · iapply kept $$ H3
    isplitl [H4]; · iapply kept $$ H4
    isplitl [H5]; · iapply kept $$ H5
    isplitl [H6]; · iapply kept $$ H6
    isplitl [H7]; · iapply kept $$ H7
    isplitl [H8]; · iapply kept $$ H8
    isplitl [H9]; · iapply kept $$ H9
    isplitl [H10]; · iapply kept $$ H10
    isplitl [H11]
    · iexists _; isplitr; · ipureintro; exact fun _ => out_last m c t h7 (Y 12) h12
      iexact H11
    iexists _; isplitr; · ipureintro; exact rows_step m c t (Y 12) h12
    iexact H12
  · have h7 : t.val ≠ 7 := fun e => h0 ((cond_iff t).mpr (by omega))
    iintro ⟨HΦ, Ho, H0, H1, H2, H3, H4, H5, H6, H7, H8, H9, H10, H11, H12⟩
    iapply (body_inner c (grid0.coords t) _ _ _ _ _ _ _ _ _ _ _ _ _ _ _ _ _ _ _ _ _ _ _ _ _ _ h0 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (Y 11) (Y 12) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨H0, H1, H2, H3, H4, H5, H6, H7, H8, H9, H10, H11, H12⟩
    isplitl [HΦ]; · iexact HΦ
    isplitl [Ho]; · iexact Ho
    isplitl [H0]; · iapply kept $$ H0
    isplitl [H1]; · iapply kept $$ H1
    isplitl [H2]; · iapply kept $$ H2
    isplitl [H3]; · iapply kept $$ H3
    isplitl [H4]; · iapply kept $$ H4
    isplitl [H5]; · iapply kept $$ H5
    isplitl [H6]; · iapply kept $$ H6
    isplitl [H7]; · iapply kept $$ H7
    isplitl [H8]; · iapply kept $$ H8
    isplitl [H9]; · iapply kept $$ H9
    isplitl [H10]; · iapply kept $$ H10
    isplitl [H11]
    · iexists (Y 11); isplitr; · ipureintro; exact fun e => absurd e h7
      iexact H11
    iexists _; isplitr; · ipureintro; exact rows_step m c t (Y 12) h12
    iexact H12

-- the run's implicit arguments are found by unifying its conclusion with this one, which takes unfolding plain
-- definitions in a metavariable's type
set_option backward.isDefEq.respectTransparency.types false in
/-- The kernel's run: every window's array ends as tracked, every other array as the launch found it, and no semaphore
    is left raised. -/
theorem run_tracked :
    θ_run defs (onTc (τ := τ) (main (F := F))) (s₀ m ρ)
      (fun r => Pipeline.RDat.FramePost (cfgs 0) (rdat m) (V m) r ∧ r.2.sem = fun _ => 0) :=
  Pipeline.RDat.θ_run_frame cfgs (0 : Fin 1) launch0 defs₀ Variants.none (rdat m) m ρ main
    (hbody := body_tracked m) (hshare := fun c w => by unfold RDat.share; split <;> rfl) (howed := fun _ _ => rfl)
    (V := V m) (hmain := hmain m Variants.none) (hA := fun _ _ => rfl) (hΦ := fun _ _ => rfl)
    (Q' := fun r => Pipeline.RDat.FramePost (cfgs 0) (rdat m) (V m) r ∧ r.2.sem = fun _ => 0) (hQ' := fun _ h => h)

/-- An output's array at the end: if at the last point, the only one that writes back, the body is sure to leave the
    block of `G₁` there, and that block covers the array, the array is `G₁`. -/
theorem arrAt_out (c : Dev nD) (w : Fin cfg0.W) (hfl : ∀ t : Fin cfg0.N, (cfg0.win w).flush t = true ↔ t.val % 8 = 7)
    (G G₁ : Buf (Elt F) ((cfg0.win w).arr.view.loc (c.tc : Thread nD τ)))
    (hX : ∀ X, (rdat m c).Leaves w ptLast X →
      (cfg0.win w).cut (cfg0.grid.coords ptLast) X = ((cfg0.win w).blk ptLast).view.read (Elt F) G₁)
    (hcov : ∀ i, i ∈ ((cfg0.win w).blk ptLast).view.set)
    (h : (rdat m c).ArrAt w cfg0.N G) : G = G₁ := by
  have e := (rdat m c).ArrAt_succ w ptLast
  rw [if_pos ((hfl ptLast).mpr rfl)] at e
  rw [show cfg0.N = ptLast.val + 1 from N_0, e] at h
  obtain ⟨G₀, X, -, hL, hG⟩ := h
  rw [hG, hX X hL, View.write_read_eq_piecewise]
  funext i
  exact Finset.piecewise_eq_of_mem _ _ _ (by rw [View.setOn_univ]; exact hcov i)

theorem emb11 (y : S64x1.Idx) : ((cfg0.win 11).blk ptLast).view.emb y = y :=
  funext fun a => Fin.ext (Pipeline.Window.rect_emb_val_of_index_zero (cfg0.win 11) ptLast a (by revert a; decide) y)

theorem emb12 (y : S64x1024.Idx) : ((cfg0.win 12).blk ptLast).view.emb y = y :=
  funext fun a => Fin.ext (Pipeline.Window.rect_emb_val_of_index_zero (cfg0.win 12) ptLast a (by revert a; decide) y)

/-- The second result's array ends as the combined array. -/
theorem comb_end (c : Dev nD) (G : Buf (Elt F) ((c.tc : Thread nD τ).loc main_v8_1))
    (h : (rdat m c).ArrAt 12 cfg0.N G) : G = combTo m c := by
  refine arrAt_out m c 12 flush0_12 G (combTo m c) ?_ (fun i => emb12 i ▸ View.emb_mem_set _ _) h
  rintro X ⟨Y, hY, hX⟩
  have e : X = combTo m c := by
    funext x
    exact hX x (by have : (x 0).val < 64 := (x 0).isLt; show (x 0).val < 64; exact this)
  rw [e]
  funext y
  exact congrArg (combTo m c) (emb12 y).symm

/-- The first result's array ends as the output. -/
theorem out_end (c : Dev nD) (G : Buf (Elt F) ((c.tc : Thread nD τ).loc main_v8_0))
    (h : (rdat m c).ArrAt 11 cfg0.N G) : G = outTo m c := by
  refine arrAt_out m c 11 flush0_11 G (outTo m c) ?_ (fun i => emb11 i ▸ View.emb_mem_set _ _) h
  rintro X ⟨Y, hY, hX⟩
  have e : X = outTo m c := hX rfl
  rw [e]
  funext y
  exact congrArg (outTo m c) (emb11 y).symm

/-- The kernel leaves its arguments as they were, its first result is the output and its second the combined array, and
    no semaphore stays raised. -/
theorem kernel_run :
    θ_run defs (onTc (τ := τ) (main (F := F))) (s₀ m ρ) (fun r => (∀ c : Dev nD,
      (r.2.mem ((c.tc : Thread nD τ).loc main_v8_0) = outTo m c
      ∧ r.2.mem ((c.tc : Thread nD τ).loc main_v8_1) = combTo m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) :=
  (θ_run defs _ _).mono (fun _ h => ⟨fun c => ⟨⟨out_end m c _ ((h.1 c).1 11), comb_end m c _ ((h.1 c).1 12)⟩,
      (Pipeline.RDat.FramePost.arr_in h.1 c 0 rfl).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (Pipeline.RDat.FramePost.arr_in h.1 c 2 rfl).trans (V_main_arg3 m c),
      ((h.1 c).2 main_arg4 (Pipeline.mem_restRefs_of main_arg4 (by decide) (by decide))).trans (V_main_arg4 m c),
      (Pipeline.RDat.FramePost.arr_in h.1 c 4 rfl).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c)⟩, h.2⟩) (run_tracked m ρ)

end Cert.Proof

end
-- ==== Proof.Frames.lean ====
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

/-! The three frame claims. The kernel read at machine floats and the kernel read at extended reals are one program text,
so the run proved for every float type serves both; the reference's run is its operations' one after another. -/

@[expose] public section

set_option maxRecDepth 16384

noncomputable section

namespace Cert.Proof

open Idealize.ShloMosaic Idealize.ShloMosaic.TcCoe Idealize.SL.Sem

variable {F : FTy → Type} [FloatOps F]

/-- The two printings of the kernel have one body table. -/
theorem bodies_same : Cert.Kernel.defs₀ (F := F) = Cert.KernelIdeal.defs₀ (F := F) := by
  show Defs.onTc _ = Defs.onTc _
  congr 1
  funext l x
  match l, x with
  | ⟨0, _⟩, (t, s) => rfl

/-- The two printings of the kernel have one table of bodies and pipelines. -/
theorem defs_same : Cert.Kernel.defs (F := F) = Cert.KernelIdeal.defs (F := F) := by
  delta Cert.Kernel.defs Cert.KernelIdeal.defs
  rw [bodies_same]
  rfl

set_option maxHeartbeats 1000000 in
/-- The two printings of the kernel have one main program. -/
theorem main_same : Cert.Kernel.main (F := F) = Cert.KernelIdeal.main (F := F) := rfl

/-- The kernel at machine floats: it terminates, its arguments end unchanged, every semaphore reads zero. -/
theorem frame_kernel : Cert.quiescent_Kernel (hKernel := Cert.Kernel.Gen.facts) := by
  intro m g _
  rw [defs_same, main_same]
  exact (θ_run _ _ _).mono (fun r h => ⟨fun c => (h.1 c).2, h.2⟩) (kernel_run (F := Bits) m g)

/-- The kernel at extended reals: it terminates, its arguments end unchanged, every semaphore reads zero. -/
theorem frame_kernelIdeal : Cert.quiescent_KernelIdeal (hKernelIdeal := Cert.KernelIdeal.Gen.facts) := by
  intro m g _
  exact (θ_run _ _ _).mono (fun r h => ⟨fun c => (h.1 c).2, h.2⟩) (kernel_run (F := Ideal) m g)

/-- The reference at extended reals: it terminates, its arguments end unchanged, and it has no semaphore. -/
theorem frame_referenceIdeal : Cert.quiescent_ReferenceIdeal (hReferenceIdeal := Cert.ReferenceIdeal.Gen.facts) := by
  intro m g _
  exact (θ_run _ _ _).mono (fun r h => ⟨fun c => (h c).2.2, sem_eq_zero_of_no_sems (by decide) r.2⟩)
    (Cert.ReferenceIdeal.Value.run (F := Ideal) m g)

end Cert.Proof

end
-- ==== Proof.Spec.lean ====
module

public import Idealize.ShloMosaic.Lib.Pointwise
public import Idealize.ShloMosaic.Lib.ValueIdx

/-! The mathematics both programs compute, over the extended reals, one scalar formula per stage. A plan is a table of
512 features at 1024 positions, with a flag at each position. -/

@[expose] public section

noncomputable section

namespace Cert.Proof

open Idealize.ShloMosaic

/-- The embedding of a plan: at channel `h` and position `p`, the weighted features plus the bias, cut below at zero. -/
def embOf (w : Fin 512 → Fin 512 → EReal) (b : Fin 512 → EReal) (t : Fin 512 → Fin 1024 → EReal) (h : Fin 512)
    (p : Fin 1024) : EReal :=
  max (∑ k : Fin 512, w h k * t k p + b h) 0

/-- The score of position `p`: the word for minus a billion where the position is flagged, and elsewhere the score
    vector against the attention layer's hyperbolic tangent. -/
def scoreOf (wa : Fin 512 → Fin 512 → EReal) (ba v : Fin 512 → EReal) (flag : Fin 1024 → BitVec 1)
    (emb : Fin 512 → Fin 1024 → EReal) (p : Fin 1024) : EReal :=
  Scalar.select (flag p) (Ideal.ofBits .f32 0xCE6E6B28#32)
    (∑ h : Fin 512, v h * Ideal.tanh (∑ k : Fin 512, wa h k * emb k p + ba h))

/-- The largest score of a plan, starting from the word for minus infinity. -/
def topOf (s : Fin 1024 → EReal) : EReal :=
  (Finset.univ : Finset (Fin 1024)).fold max (Ideal.ofBits .f32 0xFF800000#32) s

/-- The attention weight of position `p`: the exponential of the score less the largest, over the sum of those. -/
def weightOf (s : Fin 1024 → EReal) (p : Fin 1024) : EReal :=
  Ideal.div (Ideal.exp (s p - topOf s)) (∑ q : Fin 1024, Ideal.exp (s q - topOf s))

/-- A plan's combined row: the embedding at position 1, then the embedding averaged with the attention weights. -/
def rowOf (emb : Fin 512 → Fin 1024 → EReal) (a : Fin 1024 → EReal) (j : Fin 1024) : EReal :=
  if h : j.val < 512 then emb ⟨j.val, h⟩ 1 else ∑ p : Fin 1024, emb ⟨j.val - 512, by omega⟩ p * a p

/-- A plan's combined row from its features, its flags and the layers' parameters. -/
def planOf (w : Fin 512 → Fin 512 → EReal) (b : Fin 512 → EReal) (wa : Fin 512 → Fin 512 → EReal)
    (ba v : Fin 512 → EReal) (t : Fin 512 → Fin 1024 → EReal) (flag : Fin 1024 → BitVec 1) : Fin 1024 → EReal :=
  rowOf (embOf w b t) (weightOf (scoreOf wa ba v flag (embOf w b t)))

/-- The prediction from a combined row: a hidden layer cut below at zero, then one weighted sum plus a bias. -/
def headOf (w1 : Fin 512 → Fin 1024 → EReal) (b1 w2 : Fin 512 → EReal) (b2 : EReal) (row : Fin 1024 → EReal) : EReal :=
  ∑ h : Fin 512, max (∑ j : Fin 1024, row j * w1 h j + b1 h) 0 * w2 h + b2

end Cert.Proof
-- ==== Proof.KernelValue.lean ====
module

public import proofs.«01_k».proof.Proof.Row
public import proofs.«01_k».proof.Proof.Spec

/-! The kernel's arithmetic read entry by entry over the extended reals. -/

@[expose] public section

set_option maxRecDepth 16384

noncomputable section

namespace Cert.Proof

open Idealize.ShloMosaic Idealize.ShloMosaic.TcCoe
open Cert.KernelIdeal Cert.KernelIdeal.Gen

/-- The kernel's embedding of a plan, entry by entry. -/
theorem pay3_apply (t : Vec Ideal S1x512x1024 .f32) (w : Vec Ideal S512x512 .f32) (b : Vec Ideal S512x1 .f32)
    (h : Fin 512) (p : Fin 1024) :
    k0_pay3 t w b (ix2 h p) = embOf (fun h k => w (ix2 h k)) (fun h => b (ix2 h 0)) (fun k p => t (ix3 0 k p)) h p := by
  pointwise [k0_pay3, embOf]

/-- The kernel's scores of a plan as it writes them. -/
def kScores (t : Vec Ideal S1x512x1024 .f32) (w : Vec Ideal S512x512 .f32) (b : Vec Ideal S512x1 .f32)
    (wa : Vec Ideal S512x512 .f32) (ba : Vec Ideal S512x1 .f32) (v : Vec Ideal S1x512 .f32) (k : Vec Ideal S1x1x1024 .i32) :
    FVec Ideal S1x1024 .f32 :=
  select (cmpi .ne (shapeCast S1x1024 k shapeCasts_S1x1x1024_S1x1024) (constantI S1x1024 32 0#32))
    (broadcast S1x1024 (Scalar.ofBits (F := Ideal) .f32 0xCE6E6B28#32))
    (matmul (φ₁ := .f32) (φ₂ := .f32) dot_S1x512_S512x1024_S1x1024_1_0_0_1_n_n none (shapeCast S1x512 v shapeCasts_S1x512_S1x512)
      (tanh (addf (matmul (φ₁ := .f32) (φ₂ := .f32) dot_S512x512_S512x1024_S512x1024_1_0_0_1_n_n none wa (k0_pay3 t w b)
        (constant S512x1024 .f32 0x00000000#32))
        (broadcastTo S512x1024 (shapeCast S512x1 ba shapeCasts_S512x1_S512x1) broadcasts_S512x1_S512x1024)))
      (constant S1x1024 .f32 0x00000000#32))

/-- The kernel's scores, entry by entry. -/
theorem kScores_apply (t : Vec Ideal S1x512x1024 .f32) (w : Vec Ideal S512x512 .f32) (b : Vec Ideal S512x1 .f32)
    (wa : Vec Ideal S512x512 .f32) (ba : Vec Ideal S512x1 .f32) (v : Vec Ideal S1x512 .f32) (k : Vec Ideal S1x1x1024 .i32)
    (p : Fin 1024) :
    kScores t w b wa ba v k (ix2 0 p) =
      scoreOf (fun h k => wa (ix2 h k)) (fun h => ba (ix2 h 0)) (fun h => v (ix2 0 h))
        (fun p => IntOp.cmpi .ne (k (ix3 0 0 p)) 0#32) (fun h p => k0_pay3 t w b (ix2 h p)) p := by
  pointwise [kScores, scoreOf]

/-- The kernel's exponentials of the scores, each less the largest. -/
def kExps (s : FVec Ideal S1x1024 .f32) : FVec Ideal S1x1024 .f32 :=
  exp (subf s (broadcastTo S1x1024 (shapeCast S1x1
    (multiReduction .maximumf [1] S1 s 0xFF800000#32 reduces_S1x1024_S1 (.inl rfl) rfl) shapeCasts_S1_S1x1)
    broadcasts_S1x1_S1x1024))

/-- The kernel's attention weights as it writes them, from the scores. -/
def kSoft (s : FVec Ideal S1x1024 .f32) : FVec Ideal S1x1024 .f32 :=
  divf (kExps s) (broadcastTo S1x1024 (shapeCast S1x1
    (multiReduction .add [1] S1 (kExps s) 0x00000000#32 reduces_S1x1024_S1 (.inl rfl) rfl) shapeCasts_S1_S1x1)
    broadcasts_S1x1_S1x1024)

/-- The kernel's attention weights, entry by entry. -/
theorem pay4_apply (t : Vec Ideal S1x512x1024 .f32) (w : Vec Ideal S512x512 .f32) (b : Vec Ideal S512x1 .f32)
    (wa : Vec Ideal S512x512 .f32) (ba : Vec Ideal S512x1 .f32) (v : Vec Ideal S1x512 .f32) (k : Vec Ideal S1x1x1024 .i32)
    (p : Fin 1024) :
    k0_pay4 t w b wa ba v k (ix2 0 p) = weightOf (fun p => kScores t w b wa ba v k (ix2 0 p)) p := by
  change kSoft (kScores t w b wa ba v k) (ix2 0 p) = _
  generalize kScores t w b wa ba v k = s
  pointwise [kSoft, kExps, weightOf, topOf]

/-- The kernel's combined row of a plan from its embedding and attention weights. -/
theorem pay5_apply (e : FVec Ideal S512x1024 .f32) (a : FVec Ideal S1x1024 .f32) (j : Fin 1024) :
    k0_pay5 e a (constant S512x1 .f32 0x00000000#32) (ix2 0 j) =
      rowOf (fun h p => e (ix2 h p)) (fun p => a (ix2 0 p)) j := by
  pointwise [k0_pay5, rowOf]

/-- The kernel's prediction from the combined rows. -/
theorem pay2_apply (x : Vec Ideal S64x1024 .f32) (w1 : Vec Ideal S1024x512 .f32) (b1 : Vec Ideal S1x512 .f32)
    (w2 : Vec Ideal S512x1 .f32) (b2 : Vec Ideal S1x1 .f32) (n : Fin 64) :
    k0_pay2 x w1 b1 w2 b2 (ix2 n 0) =
      headOf (fun h j => w1 (ix2 j h)) (fun h => b1 (ix2 0 h)) (fun h => w2 (ix2 h 0)) (b2 (ix2 0 0))
        (fun j => x (ix2 n j)) := by
  pointwise [k0_pay2, headOf]

end Cert.Proof
-- ==== Proof.Blocks.lean ====
module

public import proofs.«01_k».proof.Proof.Run
public import Idealize.ShloMosaic.Lib.Pointwise
public import Idealize.ShloMosaic.Lib.StableHlo.RunRead

/-! The blocks the kernel reads, as entries of the arguments of the call: first the arrays the program prepares before
the launch, then each window's block. -/

@[expose] public section

set_option maxRecDepth 16384

noncomputable section

namespace Cert.Proof

open Idealize.ShloMosaic Idealize.ShloMosaic.TcCoe
open Cert.KernelIdeal Cert.KernelIdeal.Gen

variable {F : FTy → Type} [FloatOps F] (m : (ℓ : Loc nD τ sig) → Buf (Elt F) ℓ) (c : Dev nD)

/-! ## The arguments -/

/-- The features of all plans. -/
abbrev argT : Vec F S64x512x1024 .f32 := m ((c.tc : Thread nD τ).loc main_arg0)
/-- The flags of all plans. -/
abbrev argK : Vec F S64x1024 .i1 := m ((c.tc : Thread nD τ).loc main_arg2)
/-- The embedding's weights. -/
abbrev argWe : Vec F S512x512 .f32 := m ((c.tc : Thread nD τ).loc main_arg3)
/-- The embedding's bias. -/
abbrev argBe : Vec F S512 .f32 := m ((c.tc : Thread nD τ).loc main_arg4)
/-- The attention layer's weights. -/
abbrev argWa : Vec F S512x512 .f32 := m ((c.tc : Thread nD τ).loc main_arg5)
/-- The attention layer's bias. -/
abbrev argBa : Vec F S512 .f32 := m ((c.tc : Thread nD τ).loc main_arg6)
/-- The score vector. -/
abbrev argV : Vec F S512 .f32 := m ((c.tc : Thread nD τ).loc main_arg7)
/-- The hidden layer's weights. -/
abbrev argW1 : Vec F S512x1024 .f32 := m ((c.tc : Thread nD τ).loc main_arg8)
/-- The hidden layer's bias. -/
abbrev argB1 : Vec F S512 .f32 := m ((c.tc : Thread nD τ).loc main_arg9)
/-- The last layer's weights. -/
abbrev argW2 : Vec F S1x512 .f32 := m ((c.tc : Thread nD τ).loc main_arg10)
/-- The last layer's bias. -/
abbrev argB2 : Vec F S1 .f32 := m ((c.tc : Thread nD τ).loc main_arg11)

/-! ## The arrays prepared before the launch -/

/-- The flags as words: zero or one. -/
theorem V_flags (n : Fin 64) (p : Fin 1024) :
    (V m c main_call0_v0 : Vec F S64x1x1024 .i32) (ix3 n 0 p) = (argK m c (ix2 n p)).setWidth 32 := by
  after_reads_simp
  pointwise
  rfl

/-- The embedding's bias as a column. -/
theorem V_biasEmb (h : Fin 512) : (V m c main_v1 : Vec F S512x1 .f32) (ix2 h 0) = argBe m c (ix1 h) := by
  after_reads_simp
  pointwise

/-- The attention layer's bias as a column. -/
theorem V_biasAtt (h : Fin 512) : (V m c main_v2 : Vec F S512x1 .f32) (ix2 h 0) = argBa m c (ix1 h) := by
  after_reads_simp
  pointwise

/-- The score vector as a row. -/
theorem V_score (h : Fin 512) : (V m c main_v3 : Vec F S1x512 .f32) (ix2 0 h) = argV m c (ix1 h) := by
  after_reads_simp
  pointwise

/-- The hidden layer's weights turned round. -/
theorem V_hidden (j : Fin 1024) (h : Fin 512) : (V m c main_v4 : Vec F S1024x512 .f32) (ix2 j h) = argW1 m c (ix2 h j) := by
  after_reads_simp
  pointwise

/-- The hidden layer's bias as a row. -/
theorem V_biasHidden (h : Fin 512) : (V m c main_v5 : Vec F S1x512 .f32) (ix2 0 h) = argB1 m c (ix1 h) := by
  after_reads_simp
  pointwise

/-- The last layer's weights as a column. -/
theorem V_last (h : Fin 512) : (V m c main_v6 : Vec F S512x1 .f32) (ix2 h 0) = argW2 m c (ix2 0 h) := by
  after_reads_simp
  pointwise

/-- The last layer's bias as a one-entry table. -/
theorem V_biasLast : (V m c main_v7 : Vec F S1x1 .f32) (ix2 0 0) = argB2 m c (ix1 0) := by
  after_reads_simp
  pointwise

/-! ## The windows' blocks -/

/-- The plan that grid point `t` treats at place `j` of its eight. -/
theorem plan_lt (t : Fin cfg0.N) (j : Fin 8) : 8 * t.val + j.val < 64 := by
  have ht : t.val < 8 := lt_of_lt_of_eq t.isLt (show cfg0.N = 8 from N_0)
  omega

/-- The grid coordinate as a word is the point's number. -/
theorem coord_word (t : Fin cfg0.N) : (BitVec.ofNat 32 (grid0.coords t 0).val).toNat = t.val := by
  have ht : t.val < 8 := lt_of_lt_of_eq t.isLt (show cfg0.N = 8 from N_0)
  rw [coord_val, BitVec.toNat_ofNat]
  omega

/-- The features' block at point `t` holds plans `8 t` to `8 t + 7`. -/
theorem iblk0_apply (t : Fin cfg0.N) (j : Fin 8) (k : Fin 512) (p : Fin 1024) :
    (iblk m c 0 t : Vec F S8x512x1024 .f32) (ix3 j k p) = argT m c (ix3 ⟨8 * t.val + j.val, plan_lt t j⟩ k p) := by
  rw [argT, ← V_main_arg0 m c]
  refine congrArg (V m c main_arg0) (funext fun a => Fin.ext ?_)
  match a with
  | ⟨0, _⟩ =>
    refine (Pipeline.Window.rect_emb_val (cfg0.win 0) t (ix3 j k p) 0).trans ?_
    rw [show (cfg0.win 0).index t 0 = t.val from coord_word t]
    show t.val * 8 + j.val = 8 * t.val + j.val
    omega
  | ⟨1, _⟩ => exact Pipeline.Window.rect_emb_val_of_index_zero (cfg0.win 0) t 1 rfl (ix3 j k p)
  | ⟨2, _⟩ => exact Pipeline.Window.rect_emb_val_of_index_zero (cfg0.win 0) t 2 rfl (ix3 j k p)

/-- The flags' block at point `t` holds the flags of plans `8 t` to `8 t + 7`, as words. -/
theorem iblk1_apply (t : Fin cfg0.N) (j : Fin 8) (p : Fin 1024) :
    (iblk m c 1 t : Vec F S8x1x1024 .i32) (ix3 j 0 p)
      = (argK m c (ix2 ⟨8 * t.val + j.val, plan_lt t j⟩ p)).setWidth 32 := by
  rw [← V_flags m c]
  refine congrArg (V m c main_call0_v0) (funext fun a => Fin.ext ?_)
  match a with
  | ⟨0, _⟩ =>
    refine (Pipeline.Window.rect_emb_val (cfg0.win 1) t (ix3 j 0 p) 0).trans ?_
    rw [show (cfg0.win 1).index t 0 = t.val from coord_word t]
    show t.val * 8 + j.val = 8 * t.val + j.val
    omega
  | ⟨1, _⟩ => exact Pipeline.Window.rect_emb_val_of_index_zero (cfg0.win 1) t 1 rfl (ix3 j 0 p)
  | ⟨2, _⟩ => exact Pipeline.Window.rect_emb_val_of_index_zero (cfg0.win 1) t 2 rfl (ix3 j 0 p)

/-- The embedding's weights are read whole at every point. -/
theorem iblk2_eq (t : Fin cfg0.N) (y : S512x512.Idx) : (iblk m c 2 t : Vec F S512x512 .f32) y = argWe m c y := by
  rw [argWe, ← V_main_arg3 m c]
  exact congrArg (V m c main_arg3) (funext fun a => Fin.ext
    (Pipeline.Window.rect_emb_val_of_index_zero (cfg0.win 2) t a (by revert a; exact fun | 0 => rfl | 1 => rfl) y))

/-- So is the embedding's bias. -/
theorem iblk3_apply (t : Fin cfg0.N) (h : Fin 512) :
    (iblk m c 3 t : Vec F S512x1 .f32) (ix2 h 0) = argBe m c (ix1 h) := by
  rw [← V_biasEmb m c]
  exact congrArg (V m c main_v1) (funext fun a => Fin.ext
    (Pipeline.Window.rect_emb_val_of_index_zero (cfg0.win 3) t a (by revert a; exact fun | 0 => rfl | 1 => rfl) (ix2 h 0)))

/-- So are the attention layer's weights. -/
theorem iblk4_eq (t : Fin cfg0.N) (y : S512x512.Idx) : (iblk m c 4 t : Vec F S512x512 .f32) y = argWa m c y := by
  rw [argWa, ← V_main_arg5 m c]
  exact congrArg (V m c main_arg5) (funext fun a => Fin.ext
    (Pipeline.Window.rect_emb_val_of_index_zero (cfg0.win 4) t a (by revert a; exact fun | 0 => rfl | 1 => rfl) y))

/-- So is the attention layer's bias. -/
theorem iblk5_apply (t : Fin cfg0.N) (h : Fin 512) :
    (iblk m c 5 t : Vec F S512x1 .f32) (ix2 h 0) = argBa m c (ix1 h) := by
  rw [← V_biasAtt m c]
  exact congrArg (V m c main_v2) (funext fun a => Fin.ext
    (Pipeline.Window.rect_emb_val_of_index_zero (cfg0.win 5) t a (by revert a; exact fun | 0 => rfl | 1 => rfl) (ix2 h 0)))

/-- So is the score vector. -/
theorem iblk6_apply (t : Fin cfg0.N) (h : Fin 512) :
    (iblk m c 6 t : Vec F S1x512 .f32) (ix2 0 h) = argV m c (ix1 h) := by
  rw [← V_score m c]
  exact congrArg (V m c main_v3) (funext fun a => Fin.ext
    (Pipeline.Window.rect_emb_val_of_index_zero (cfg0.win 6) t a (by revert a; exact fun | 0 => rfl | 1 => rfl) (ix2 0 h)))

/-- So are the hidden layer's weights. -/
theorem iblk7_apply (t : Fin cfg0.N) (j : Fin 1024) (h : Fin 512) :
    (iblk m c 7 t : Vec F S1024x512 .f32) (ix2 j h) = argW1 m c (ix2 h j) := by
  rw [← V_hidden m c]
  exact congrArg (V m c main_v4) (funext fun a => Fin.ext
    (Pipeline.Window.rect_emb_val_of_index_zero (cfg0.win 7) t a (by revert a; exact fun | 0 => rfl | 1 => rfl) (ix2 j h)))

/-- So is the hidden layer's bias. -/
theorem iblk8_apply (t : Fin cfg0.N) (h : Fin 512) :
    (iblk m c 8 t : Vec F S1x512 .f32) (ix2 0 h) = argB1 m c (ix1 h) := by
  rw [← V_biasHidden m c]
  exact congrArg (V m c main_v5) (funext fun a => Fin.ext
    (Pipeline.Window.rect_emb_val_of_index_zero (cfg0.win 8) t a (by revert a; exact fun | 0 => rfl | 1 => rfl) (ix2 0 h)))

/-- So are the last layer's weights. -/
theorem iblk9_apply (t : Fin cfg0.N) (h : Fin 512) :
    (iblk m c 9 t : Vec F S512x1 .f32) (ix2 h 0) = argW2 m c (ix2 0 h) := by
  rw [← V_last m c]
  exact congrArg (V m c main_v6) (funext fun a => Fin.ext
    (Pipeline.Window.rect_emb_val_of_index_zero (cfg0.win 9) t a (by revert a; exact fun | 0 => rfl | 1 => rfl) (ix2 h 0)))

/-- So is the last layer's bias. -/
theorem iblk10_apply (t : Fin cfg0.N) :
    (iblk m c 10 t : Vec F S1x1 .f32) (ix2 0 0) = argB2 m c (ix1 0) := by
  rw [← V_biasLast m c]
  exact congrArg (V m c main_v7) (funext fun a => Fin.ext
    (Pipeline.Window.rect_emb_val_of_index_zero (cfg0.win 10) t a (by revert a; exact fun | 0 => rfl | 1 => rfl) (ix2 0 0)))

end Cert.Proof
-- ==== Proof.KernelResults.lean ====
module

public import proofs.«01_k».proof.Proof.KernelValue
public import proofs.«01_k».proof.Proof.Blocks

/-! The kernel's two results over the extended reals, as formulas of the arguments. -/

@[expose] public section

set_option maxRecDepth 16384

noncomputable section

namespace Cert.Proof

open Idealize.ShloMosaic Idealize.ShloMosaic.TcCoe
open Cert.KernelIdeal Cert.KernelIdeal.Gen

/-- A flag widened to a word differs from zero exactly when the flag is set. -/
theorem widened_ne_zero : ∀ b : BitVec 1, IntOp.cmpi .ne (b.setWidth 32) 0#32 = b := by decide

/-- The row the kernel stores for a plan is the plan's combined row. -/
theorem planRow_apply (t : Vec Ideal S1x512x1024 .f32) (k : Vec Ideal S1x1x1024 .i32) (w : Vec Ideal S512x512 .f32)
    (b : Vec Ideal S512x1 .f32) (wa : Vec Ideal S512x512 .f32) (ba : Vec Ideal S512x1 .f32) (v : Vec Ideal S1x512 .f32)
    (j : Fin 1024) :
    planRow t k w b wa ba v (ix2 0 j) =
      planOf (fun h k => w (ix2 h k)) (fun h => b (ix2 h 0)) (fun h k => wa (ix2 h k)) (fun h => ba (ix2 h 0))
        (fun h => v (ix2 0 h)) (fun k p => t (ix3 0 k p)) (fun p => IntOp.cmpi .ne (k (ix3 0 0 p)) 0#32) j := by
  unfold planRow planOf
  rw [pay5_apply]
  simp only [pay4_apply, kScores_apply, pay3_apply]

variable (m : (ℓ : Loc nD τ sig) → Buf (Elt Ideal) ℓ) (c : Dev nD)

/-- Plan `n`'s combined row, from the arguments. -/
def combRow (n : Fin 64) : Fin 1024 → EReal :=
  planOf (fun h k => argWe m c (ix2 h k)) (fun h => argBe m c (ix1 h)) (fun h k => argWa m c (ix2 h k))
    (fun h => argBa m c (ix1 h)) (fun h => argV m c (ix1 h)) (fun k p => argT m c (ix3 n k p))
    (fun p => argK m c (ix2 n p))

/-- The kernel's second result holds, plan by plan, the combined rows. -/
theorem combTo_apply (n : Fin 64) (j : Fin 1024) : combTo m c (ix2 n j) = combRow m c n j := by
  have hn : (⟨8 * (ptOf n).val + n.val % 8, plan_lt (ptOf n) ⟨n.val % 8, by omega⟩⟩ : Fin 64) = n :=
    Fin.ext (by show 8 * (n.val / 8) + n.val % 8 = n.val; omega)
  have hT (k : Fin 512) (p : Fin 1024) := iblk0_apply m c (ptOf n) ⟨n.val % 8, by omega⟩ k p
  have hK (p : Fin 1024) := iblk1_apply m c (ptOf n) ⟨n.val % 8, by omega⟩ p
  simp only [hn] at hT hK
  refine (planRow_apply _ _ _ _ _ _ _ j).trans ?_
  unfold combRow
  congr 1
  · funext h k; exact iblk2_eq m c _ _
  · funext h; exact iblk3_apply m c _ h
  · funext h k; exact iblk4_eq m c _ _
  · funext h; exact iblk5_apply m c _ h
  · funext h; exact iblk6_apply m c _ h
  · funext k p; exact hT k p
  · funext p
    refine (congrArg (fun b => IntOp.cmpi .ne b 0#32) (hK p)).trans (widened_ne_zero _)

/-- The kernel's first result holds, plan by plan, the predictions. -/
theorem outTo_apply (n : Fin 64) :
    outTo m c (ix2 n 0) = headOf (fun h j => argW1 m c (ix2 h j)) (fun h => argB1 m c (ix1 h))
      (fun h => argW2 m c (ix2 0 h)) (argB2 m c (ix1 0)) (combRow m c n) := by
  unfold outTo
  rw [pay2_apply]
  congr 1
  · funext h j; exact iblk7_apply m c _ j h
  · funext h; exact iblk8_apply m c _ h
  · funext h; exact iblk9_apply m c _ h
  · exact iblk10_apply m c _
  · funext j; exact combTo_apply m c n j

end Cert.Proof
-- ==== Proof.RefValue.lean ====
module

public import proofs.«01_k».proof.Proof.Gen.ReferenceIdeal.Run
public import proofs.«01_k».proof.Proof.Spec

/-! The reference's two results over the extended reals, stage by stage, entry by entry. -/

@[expose] public section

set_option maxRecDepth 16384

noncomputable section

namespace Cert.Proof.Ref

open Idealize.ShloMosaic Idealize.ShloMosaic.TcCoe
open Cert.ReferenceIdeal Cert.ReferenceIdeal.Gen

/-! ## The reference's stages -/

variable (T : Vec Ideal S64x512x1024 .f32) (K : Vec Ideal S64x1024 .i1) (We : Vec Ideal S512x512 .f32) (Be : Vec Ideal S512 .f32)
  (Wa : Vec Ideal S512x512 .f32) (Ba V : Vec Ideal S512 .f32) (W1 : Vec Ideal S512x1024 .f32) (B1 : Vec Ideal S512 .f32)
  (W2 : Vec Ideal S1x512 .f32) (B2 : Vec Ideal S1 .f32)

/-- The embeddings of all plans, positions before channels. -/
def emb : FVec Ideal S64x1024x512 .f32 :=
  transpose S64x1024x512 [0, 2, 1] (maximumf (addf (transpose S64x512x1024 [1, 0, 2]
    (Host.dotGeneral (F := Ideal) (φ₁ := .f32) (φ₂ := .f32) dot_S512x512_S64x512x1024_S512x64x1024_1_1_0_02_n_n none We T) transposes_S512x64x1024_S64x512x1024_1_0_2)
    (broadcastInDim S64x512x1024 ![0, 1, 2] bcast_S1x512x1_S64x512x1024_0_1_2
      (broadcastInDim S1x512x1 ![1] bcast_S512_S1x512x1_1 Be)))
    (broadcastInDim S64x512x1024 ![] bcast_S_S64x512x1024 (constant (F := Ideal) S_ .f32 0x00000000#32)))
    transposes_S64x512x1024_S64x1024x512_0_2_1

/-- The scores, from the embeddings. -/
def scores (E : FVec Ideal S64x1024x512 .f32) : FVec Ideal S64x1024 .f32 :=
  select K (broadcastInDim S64x1024 ![] bcast_S_S64x1024 (id (constant (F := Ideal) S_ .f32 0xCE6E6B28#32)))
    (Host.dotGeneral (F := Ideal) (φ₁ := .f32) (φ₂ := .f32) dot_S64x1024x512_S512_S64x1024_2_0_01_n_n_n none
      (Host.tanh (addf (Host.dotGeneral (F := Ideal) (φ₁ := .f32) (φ₂ := .f32) dot_S64x1024x512_S512x512_S64x1024x512_2_1_01_0_n_n none E Wa)
        (broadcastInDim S64x1024x512 ![0, 1, 2] bcast_S1x1x512_S64x1024x512_0_1_2
          (broadcastInDim S1x1x512 ![2] bcast_S512_S1x1x512_2 Ba)))) V)

/-- The exponentials of the scores less each plan's largest. -/
def exps (s : FVec Ideal S64x1024 .f32) : FVec Ideal S64x1024 .f32 :=
  Host.exp (subf s (broadcastInDim S64x1024 ![0, 1] bcast_S64x1_S64x1024_0_1 (broadcastInDim S64x1 ![0] bcast_S64_S64x1_0
    (maximumf (broadcastInDim S64 ![] bcast_S_S64 (constant (F := Ideal) S_ .f32 0xFF800000#32))
      (Host.reduce FloatOps.maximumf s (constant (F := Ideal) S_ .f32 0xFF800000#32) reducesTo_S64x1024_S64_d1 h_S_)))))

/-- The attention weights, from the scores. -/
def weights (s : FVec Ideal S64x1024 .f32) : FVec Ideal S64x1024 .f32 :=
  Host.divf (exps s) (broadcastInDim S64x1024 ![0, 1] bcast_S64x1_S64x1024_0_1 (broadcastInDim S64x1 ![0] bcast_S64_S64x1_0
    (Host.reduceAdd (exps s) (constant (F := Ideal) S_ .f32 0x00000000#32) reducesTo_S64x1024_S64_d1 h_S_)))

/-- The combined rows, from the embeddings and the attention weights. -/
def comb (E : FVec Ideal S64x1024x512 .f32) (A : FVec Ideal S64x1024 .f32) : FVec Ideal S64x1024 .f32 :=
  concatenate S64x1024 1 [⟨S64x512, (shapeCast S64x512 (extractStridedSlice S64x1x512 ![0, 1, 0] E
    slices_S64x1024x512_S64x1x512_0_1_0) shapeCasts_S64x1x512_S64x512)⟩,
    ⟨S64x512, (Host.dotGeneral (F := Ideal) (φ₁ := .f32) (φ₂ := .f32) dot_S64x1024_S64x1024x512_S64x512_1_1_n_2_0_0 none A E)⟩]
    concatenates_S64x512_S64x512_S64x1024_d1

/-- The predictions, from the combined rows. -/
def head (C : FVec Ideal S64x1024 .f32) : FVec Ideal S64x1 .f32 :=
  addf (Host.dotGeneral (F := Ideal) (φ₁ := .f32) (φ₂ := .f32) dot_S64x512_S512x1_S64x1_1_0_0_1_n_n none
    (maximumf (addf (Host.dotGeneral (F := Ideal) (φ₁ := .f32) (φ₂ := .f32) dot_S64x1024_S1024x512_S64x512_1_0_0_1_n_n none C
      (transpose S1024x512 [1, 0] W1 transposes_S512x1024_S1024x512_1_0))
      (broadcastInDim S64x512 ![0, 1] bcast_S1x512_S64x512_0_1 (broadcastInDim S1x512 ![1] bcast_S512_S1x512_1 B1)))
      (broadcastInDim S64x512 ![] bcast_S_S64x512 (constant (F := Ideal) S_ .f32 0x00000000#32)))
    (transpose S512x1 [1, 0] W2 transposes_S1x512_S512x1_1_0))
    (broadcastInDim S64x1 ![0, 1] bcast_S1x1_S64x1_0_1 (broadcastInDim S1x1 ![1] bcast_S1_S1x1_1 B2))

/-! ## The stages, entry by entry -/

/-- The embeddings. -/
theorem emb_apply (n : Fin 64) (p : Fin 1024) (h : Fin 512) :
    emb T We Be (ix3 n p h) =
      embOf (fun h k => We (ix2 h k)) (fun h => Be (ix1 h)) (fun k p => T (ix3 n k p)) h p := by
  pointwise [emb, embOf]

/-- The scores: the reference multiplies in the other order. -/
theorem scores_apply (E : FVec Ideal S64x1024x512 .f32) (n : Fin 64) (p : Fin 1024) :
    scores K Wa Ba V E (ix2 n p) =
      scoreOf (fun h k => Wa (ix2 h k)) (fun h => Ba (ix1 h)) (fun h => V (ix1 h)) (fun p => K (ix2 n p))
        (fun h p => E (ix3 n p h)) p := by
  pointwise [scores, scoreOf]
  congr 1
  refine Finset.sum_congr rfl fun h _ => ?_
  rw [mul_comm]
  congr 3
  exact Finset.sum_congr rfl fun k _ => mul_comm _ _

/-- The largest of several numbers, started from a given one, is no less than that one. -/
theorem start_le_top {a : EReal} (s : Fin 1024 → EReal) : a ≤ (Finset.univ : Finset (Fin 1024)).fold max a s :=
  Finset.le_fold_max a |>.mpr (Or.inl le_rfl)

/-- The attention weights: the reference compares the largest score with the starting word once more. -/
theorem weights_apply (s : FVec Ideal S64x1024 .f32) (n : Fin 64) (p : Fin 1024) :
    weights s (ix2 n p) = weightOf (fun p => s (ix2 n p)) p := by
  pointwise [weights, exps, weightOf, topOf]
  rw [max_eq_right (start_le_top _)]

/-- The combined rows: the reference multiplies in the other order. -/
theorem comb_apply (E : FVec Ideal S64x1024x512 .f32) (A : FVec Ideal S64x1024 .f32) (n : Fin 64) (j : Fin 1024) :
    comb E A (ix2 n j) = rowOf (fun h p => E (ix3 n p h)) (fun p => A (ix2 n p)) j := by
  pointwise [comb, rowOf]
  split
  · rfl
  · exact Finset.sum_congr rfl fun p _ => mul_comm _ _

/-- The predictions. -/
theorem head_apply (C : FVec Ideal S64x1024 .f32) (n : Fin 64) :
    head W1 B1 W2 B2 C (ix2 n 0) =
      headOf (fun h j => W1 (ix2 h j)) (fun h => B1 (ix1 h)) (fun h => W2 (ix2 0 h)) (B2 (ix1 0)) (fun j => C (ix2 n j)) := by
  pointwise [head, headOf]

/-! ## The results -/

variable (m : (ℓ : Loc nD τ sig) → Buf (Elt Ideal) ℓ) (c : Dev nD)

/-- The features of all plans. -/
abbrev argT : Vec Ideal S64x512x1024 .f32 := m ((c.tc : Thread nD τ).loc main_arg0)
/-- The flags of all plans. -/
abbrev argK : Vec Ideal S64x1024 .i1 := m ((c.tc : Thread nD τ).loc main_arg2)
/-- The embedding's weights. -/
abbrev argWe : Vec Ideal S512x512 .f32 := m ((c.tc : Thread nD τ).loc main_arg3)
/-- The embedding's bias. -/
abbrev argBe : Vec Ideal S512 .f32 := m ((c.tc : Thread nD τ).loc main_arg4)
/-- The attention layer's weights. -/
abbrev argWa : Vec Ideal S512x512 .f32 := m ((c.tc : Thread nD τ).loc main_arg5)
/-- The attention layer's bias. -/
abbrev argBa : Vec Ideal S512 .f32 := m ((c.tc : Thread nD τ).loc main_arg6)
/-- The score vector. -/
abbrev argV : Vec Ideal S512 .f32 := m ((c.tc : Thread nD τ).loc main_arg7)
/-- The hidden layer's weights. -/
abbrev argW1 : Vec Ideal S512x1024 .f32 := m ((c.tc : Thread nD τ).loc main_arg8)
/-- The hidden layer's bias. -/
abbrev argB1 : Vec Ideal S512 .f32 := m ((c.tc : Thread nD τ).loc main_arg9)
/-- The last layer's weights. -/
abbrev argW2 : Vec Ideal S1x512 .f32 := m ((c.tc : Thread nD τ).loc main_arg10)
/-- The last layer's bias. -/
abbrev argB2 : Vec Ideal S1 .f32 := m ((c.tc : Thread nD τ).loc main_arg11)

/-- The reference's embeddings of the arguments. -/
abbrev embM : FVec Ideal S64x1024x512 .f32 := emb (argT m c) (argWe m c) (argBe m c)

/-- The reference's combined rows of the arguments. -/
abbrev combM : FVec Ideal S64x1024 .f32 :=
  comb (embM m c) (weights (scores (argK m c) (argWa m c) (argBa m c) (argV m c) (embM m c)))

/-- The reference's second result is its combined rows. -/
theorem second_eq : Value.res_main_v28 m c = combM m c := rfl

/-- The reference's first result is its predictions. -/
theorem first_eq : Value.res_main_v39 m c = head (argW1 m c) (argB1 m c) (argW2 m c) (argB2 m c) (combM m c) := rfl

/-- Plan `n`'s combined row, from the arguments. -/
def combRow (n : Fin 64) : Fin 1024 → EReal :=
  planOf (fun h k => argWe m c (ix2 h k)) (fun h => argBe m c (ix1 h)) (fun h k => argWa m c (ix2 h k))
    (fun h => argBa m c (ix1 h)) (fun h => argV m c (ix1 h)) (fun k p => argT m c (ix3 n k p))
    (fun p => argK m c (ix2 n p))

/-- The reference's second result holds, plan by plan, the combined rows. -/
theorem combM_apply (n : Fin 64) (j : Fin 1024) : combM m c (ix2 n j) = combRow m c n j := by
  unfold combRow planOf combM
  rw [comb_apply]
  simp only [weights_apply, scores_apply, emb_apply]

/-- The reference's first result holds, plan by plan, the predictions. -/
theorem headM_apply (n : Fin 64) :
    head (argW1 m c) (argB1 m c) (argW2 m c) (argB2 m c) (combM m c) (ix2 n 0) =
      headOf (fun h j => argW1 m c (ix2 h j)) (fun h => argB1 m c (ix1 h)) (fun h => argW2 m c (ix2 0 h))
        (argB2 m c (ix1 0)) (combRow m c n) := by
  rw [head_apply]
  simp only [combM_apply]

end Cert.Proof.Ref
-- ==== Proof.Algebraic.lean ====
module

public import proofs.«01_k».proof.Defs
public import proofs.«01_k».proof.Proof.KernelResults
public import proofs.«01_k».proof.Proof.RefValue

/-! The kernel and the reference end with the same two results over the extended reals. -/

@[expose] public section

set_option maxRecDepth 16384

noncomputable section

namespace Cert.Proof

open Idealize.ShloMosaic Idealize.ShloMosaic.TcCoe Idealize.SL.Sem

section Equal

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The arguments the results depend on are the same in the two memories. -/
structure SameArgs : Prop where
  T : Ref.argT m' c = argT m c
  K : Ref.argK m' c = argK m c
  We : Ref.argWe m' c = argWe m c
  Be : Ref.argBe m' c = argBe m c
  Wa : Ref.argWa m' c = argWa m c
  Ba : Ref.argBa m' c = argBa m c
  V : Ref.argV m' c = argV m c
  W1 : Ref.argW1 m' c = argW1 m c
  B1 : Ref.argB1 m' c = argB1 m c
  W2 : Ref.argW2 m' c = argW2 m c
  B2 : Ref.argB2 m' c = argB2 m c

variable {m m' c}

/-- From the same arguments the two programs' combined rows are the same formula. -/
theorem combRow_eq (h : SameArgs m m' c) (n : Fin 64) : Ref.combRow m' c n = combRow m c n := by
  unfold Ref.combRow combRow
  rw [h.T, h.K, h.We, h.Be, h.Wa, h.Ba, h.V]

/-- The second results agree. -/
theorem second_same (h : SameArgs m m' c) : Cert.ReferenceIdeal.Value.res_main_v28 m' c = combTo m c := by
  rw [Ref.second_eq]
  funext (x : Cert.KernelIdeal.S64x1024.Idx)
  obtain ⟨n, j, rfl⟩ : ∃ (n : Fin 64) (j : Fin 1024), x = ix2 n j := ⟨x 0, x 1, ValueIdx.eq_ix2 x⟩
  exact (Ref.combM_apply m' c n j).trans ((congrFun (combRow_eq h n) j).trans (combTo_apply m c n j).symm)

/-- The first results agree. -/
theorem first_same (h : SameArgs m m' c) : Cert.ReferenceIdeal.Value.res_main_v39 m' c = outTo m c := by
  rw [Ref.first_eq]
  funext (x : Cert.KernelIdeal.S64x1.Idx)
  obtain ⟨n, rfl⟩ : ∃ n : Fin 64, x = ix2 n 0 :=
    ⟨x 0, (ValueIdx.eq_ix2 x).trans (congrArg (ValueIdx.ix2 (x 0)) (Subsingleton.elim (α := Fin 1) _ _))⟩
  refine (Ref.headM_apply m' c n).trans ((?_ : _ = _).trans (outTo_apply m c n).symm)
  rw [combRow_eq h n, h.W1, h.B1, h.W2, h.B2]

end Equal

/-- The kernel and the reference, from memories that agree on the arguments, both run and end with equal results. -/
theorem algebraic : Cert.algebraic_KernelIdeal_ReferenceIdeal (hKernelIdeal := Cert.KernelIdeal.Gen.facts)
    (hReferenceIdeal := Cert.ReferenceIdeal.Gen.facts) := by
  intro m g m' g' _ hargs
  have same (c) : SameArgs m m' c := by
    obtain ⟨h0, -, h2, h3, h4, h5, h6, h7, h8, h9, h10, h11⟩ := hargs c
    exact ⟨h0, h2, h3, h4, h5, h6, h7, h8, h9, h10, h11⟩
  refine ⟨fun c => outTo m c, fun c => combTo m c, ?_, ?_⟩
  · exact (θ_run _ _ _).mono (fun r h c => ⟨(h.1 c).1.1, (h.1 c).1.2, (h.1 c).2⟩) (kernel_run m g)
  · exact (θ_run _ _ _).mono (fun r h c => ⟨(h c).1.trans (first_same (same c)), (h c).2.1.trans (second_same (same c)),
      (h c).2.2⟩) (Cert.ReferenceIdeal.Value.run m' g')

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- All five claims: the three frames, that the idealized kernel is the kernel, and that it ends with the reference's
    two results. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
